-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S32x256 : Shape := ⟨2, ![32, 256]⟩
abbrev S256x256 : Shape := ⟨2, ![256, 256]⟩
abbrev S8x32x256 : Shape := ⟨3, ![8, 32, 256]⟩
abbrev S8 : Shape := ⟨1, ![8]⟩
abbrev S_ : Shape := ⟨0, ![]⟩
abbrev S256x16 : Shape := ⟨2, ![256, 16]⟩
abbrev S256 : Shape := ⟨1, ![256]⟩
abbrev S1x128x256 : Shape := ⟨3, ![1, 128, 256]⟩
abbrev S1 : Shape := ⟨1, ![1]⟩
abbrev S1x32x256 : Shape := ⟨3, ![1, 32, 256]⟩
abbrev S32x128 : Shape := ⟨2, ![32, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S32x256, .f32⟩
  | .local _ .vmem, ⟨0, _⟩ => ⟨S256x128, .bf16⟩
  | .local _ .vmem, ⟨1, _⟩ => ⟨S128x16, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S32x256, .f32⟩
  | .local _ .vmem, ⟨6, _⟩ => ⟨S256x256, .f32⟩
  | .local _ .vmem, ⟨7, _⟩ => ⟨S8x32x256, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 2 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_100 : BitVec 32 := 0#32
  let c0_i32_101 : BitVec 32 := 0#32
  ![v2.toNat, 0, 0]
def k0_off3 (d0 : Dev nD) (c1_i32_90 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v147 : BitVec 32 := Scalar.addi v2 c1_i32_90
  let c8_i32_91 : BitVec 32 := 8#32
  let c0_i32_92 : BitVec 32 := 0#32
  let v148 : BitVec 1 := Scalar.cmpi .eq c8_i32_91 c0_i32_92
  let c1_i32_93 : BitVec 32 := 1#32
  let v149 : BitVec 32 := Scalar.select v148 c1_i32_93 c8_i32_91
  let v150 : BitVec 32 := Scalar.remsi v147 v149
  let c0_i32_95 : BitVec 32 := 0#32
  let v152 : BitVec 1 := Scalar.cmpi .slt v150 c0_i32_95
  let c0_i32_96 : BitVec 32 := 0#32
  let v153 : BitVec 1 := Scalar.cmpi .slt v149 c0_i32_96
  let v154 : BitVec 1 := Scalar.xori v152 v153
  let c0_i32_94 : BitVec 32 := 0#32
  let v151 : BitVec 1 := Scalar.cmpi .ne v150 c0_i32_94
  let v155 : BitVec 1 := Scalar.andi v154 v151
  let v156 : BitVec 32 := Scalar.addi v150 v149
  let v157 : BitVec 32 := Scalar.select v155 v156 v150
  let c32_i32 : BitVec 32 := 32#32
  let v158 : BitVec 32 := Scalar.muli v157 c32_i32
  let c0_i32_102 : BitVec 32 := 0#32
  ![v158.toNat, 0]
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v147 : BitVec 32 := Scalar.addi v2 c1_i32_90
  let c8_i32_91 : BitVec 32 := 8#32
  let c0_i32_92 : BitVec 32 := 0#32
  let v148 : BitVec 1 := Scalar.cmpi .eq c8_i32_91 c0_i32_92
  let c1_i32_93 : BitVec 32 := 1#32
  let v149 : BitVec 32 := Scalar.select v148 c1_i32_93 c8_i32_91
  let v150 : BitVec 32 := Scalar.remsi v147 v149
  let c0_i32_95 : BitVec 32 := 0#32
  let v152 : BitVec 1 := Scalar.cmpi .slt v150 c0_i32_95
  let c0_i32_96 : BitVec 32 := 0#32
  let v153 : BitVec 1 := Scalar.cmpi .slt v149 c0_i32_96
  let v154 : BitVec 1 := Scalar.xori v152 v153
  let c0_i32_94 : BitVec 32 := 0#32
  let v151 : BitVec 1 := Scalar.cmpi .ne v150 c0_i32_94
  let v155 : BitVec 1 := Scalar.andi v154 v151
  let v156 : BitVec 32 := Scalar.addi v150 v149
  let v157 : BitVec 32 := Scalar.select v155 v156 v150
  let c1_i32_98 : BitVec 32 := 1#32
  let v159 : BitVec 32 := Scalar.muli v157 c1_i32_98
  let v160 : BitVec 32 := Scalar.addi c0_i32_99 v159
  v160.toNat
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v168 : BitVec 32 := Scalar.addi v2 c2_i32_103
  let c8_i32_104 : BitVec 32 := 8#32
  let c0_i32_105 : BitVec 32 := 0#32
  let v169 : BitVec 1 := Scalar.cmpi .eq c8_i32_104 c0_i32_105
  let c1_i32_106 : BitVec 32 := 1#32
  let v170 : BitVec 32 := Scalar.select v169 c1_i32_106 c8_i32_104
  let v171 : BitVec 32 := Scalar.remsi v168 v170
  let c0_i32_108 : BitVec 32 := 0#32
  let v173 : BitVec 1 := Scalar.cmpi .slt v171 c0_i32_108
  let c0_i32_109 : BitVec 32 := 0#32
  let v174 : BitVec 1 := Scalar.cmpi .slt v170 c0_i32_109
  let v175 : BitVec 1 := Scalar.xori v173 v174
  let c0_i32_107 : BitVec 32 := 0#32
  let v172 : BitVec 1 := Scalar.cmpi .ne v171 c0_i32_107
  let v176 : BitVec 1 := Scalar.andi v175 v172
  let v177 : BitVec 32 := Scalar.addi v171 v170
  let v178 : BitVec 32 := Scalar.select v176 v177 v171
  let c1_i32_112 : BitVec 32 := 1#32
  let v180 : BitVec 32 := Scalar.muli v178 c1_i32_112
  let v181 : BitVec 32 := Scalar.addi c0_i32_113 v180
  v181.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v189 : BitVec 32 := Scalar.addi v2 c3_i32_117
  let c8_i32_118 : BitVec 32 := 8#32
  let c0_i32_119 : BitVec 32 := 0#32
  let v190 : BitVec 1 := Scalar.cmpi .eq c8_i32_118 c0_i32_119
  let c1_i32_120 : BitVec 32 := 1#32
  let v191 : BitVec 32 := Scalar.select v190 c1_i32_120 c8_i32_118
  let v192 : BitVec 32 := Scalar.remsi v189 v191
  let c0_i32_122 : BitVec 32 := 0#32
  let v194 : BitVec 1 := Scalar.cmpi .slt v192 c0_i32_122
  let c0_i32_123 : BitVec 32 := 0#32
  let v195 : BitVec 1 := Scalar.cmpi .slt v191 c0_i32_123
  let v196 : BitVec 1 := Scalar.xori v194 v195
  let c0_i32_121 : BitVec 32 := 0#32
  let v193 : BitVec 1 := Scalar.cmpi .ne v192 c0_i32_121
  let v197 : BitVec 1 := Scalar.andi v196 v193
  let v198 : BitVec 32 := Scalar.addi v192 v191
  let v199 : BitVec 32 := Scalar.select v197 v198 v192
  let c1_i32_126 : BitVec 32 := 1#32
  let v201 : BitVec 32 := Scalar.muli v199 c1_i32_126
  let v202 : BitVec 32 := Scalar.addi c0_i32_127 v201
  v202.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v210 : BitVec 32 := Scalar.addi v2 c4_i32_131
  let c8_i32_132 : BitVec 32 := 8#32
  let c0_i32_133 : BitVec 32 := 0#32
  let v211 : BitVec 1 := Scalar.cmpi .eq c8_i32_132 c0_i32_133
  let c1_i32_134 : BitVec 32 := 1#32
  let v212 : BitVec 32 := Scalar.select v211 c1_i32_134 c8_i32_132
  let v213 : BitVec 32 := Scalar.remsi v210 v212
  let c0_i32_136 : BitVec 32 := 0#32
  let v215 : BitVec 1 := Scalar.cmpi .slt v213 c0_i32_136
  let c0_i32_137 : BitVec 32 := 0#32
  let v216 : BitVec 1 := Scalar.cmpi .slt v212 c0_i32_137
  let v217 : BitVec 1 := Scalar.xori v215 v216
  let c0_i32_135 : BitVec 32 := 0#32
  let v214 : BitVec 1 := Scalar.cmpi .ne v213 c0_i32_135
  let v218 : BitVec 1 := Scalar.andi v217 v214
  let v219 : BitVec 32 := Scalar.addi v213 v212
  let v220 : BitVec 32 := Scalar.select v218 v219 v213
  let c1_i32_140 : BitVec 32 := 1#32
  let v222 : BitVec 32 := Scalar.muli v220 c1_i32_140
  let v223 : BitVec 32 := Scalar.addi c0_i32_141 v222
  v223.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_145 : BitVec 32 := 5#32
  let v231 : BitVec 32 := Scalar.addi v2 c5_i32_145
  let c8_i32_146 : BitVec 32 := 8#32
  let c0_i32_147 : BitVec 32 := 0#32
  let v232 : BitVec 1 := Scalar.cmpi .eq c8_i32_146 c0_i32_147
  let c1_i32_148 : BitVec 32 := 1#32
  let v233 : BitVec 32 := Scalar.select v232 c1_i32_148 c8_i32_146
  let v234 : BitVec 32 := Scalar.remsi v231 v233
  let c0_i32_150 : BitVec 32 := 0#32
  let v236 : BitVec 1 := Scalar.cmpi .slt v234 c0_i32_150
  let c0_i32_151 : BitVec 32 := 0#32
  let v237 : BitVec 1 := Scalar.cmpi .slt v233 c0_i32_151
  let v238 : BitVec 1 := Scalar.xori v236 v237
  let c0_i32_149 : BitVec 32 := 0#32
  let v235 : BitVec 1 := Scalar.cmpi .ne v234 c0_i32_149
  let v239 : BitVec 1 := Scalar.andi v238 v235
  let v240 : BitVec 32 := Scalar.addi v234 v233
  let v241 : BitVec 32 := Scalar.select v239 v240 v234
  let c1_i32_154 : BitVec 32 := 1#32
  let v243 : BitVec 32 := Scalar.muli v241 c1_i32_154
  let v244 : BitVec 32 := Scalar.addi c0_i32_155 v243
  v244.toNat
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_159 : BitVec 32 := 6#32
  let v252 : BitVec 32 := Scalar.addi v2 c6_i32_159
  let c8_i32_160 : BitVec 32 := 8#32
  let c0_i32_161 : BitVec 32 := 0#32
  let v253 : BitVec 1 := Scalar.cmpi .eq c8_i32_160 c0_i32_161
  let c1_i32_162 : BitVec 32 := 1#32
  let v254 : BitVec 32 := Scalar.select v253 c1_i32_162 c8_i32_160
  let v255 : BitVec 32 := Scalar.remsi v252 v254
  let c0_i32_164 : BitVec 32 := 0#32
  let v257 : BitVec 1 := Scalar.cmpi .slt v255 c0_i32_164
  let c0_i32_165 : BitVec 32 := 0#32
  let v258 : BitVec 1 := Scalar.cmpi .slt v254 c0_i32_165
  let v259 : BitVec 1 := Scalar.xori v257 v258
  let c0_i32_163 : BitVec 32 := 0#32
  let v256 : BitVec 1 := Scalar.cmpi .ne v255 c0_i32_163
  let v260 : BitVec 1 := Scalar.andi v259 v256
  let v261 : BitVec 32 := Scalar.addi v255 v254
  let v262 : BitVec 32 := Scalar.select v260 v261 v255
  let c1_i32_168 : BitVec 32 := 1#32
  let v264 : BitVec 32 := Scalar.muli v262 c1_i32_168
  let v265 : BitVec 32 := Scalar.addi c0_i32_169 v264
  v265.toNat
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_173 : BitVec 32 := 7#32
  let v273 : BitVec 32 := Scalar.addi v2 c7_i32_173
  let c8_i32_174 : BitVec 32 := 8#32
  let c0_i32_175 : BitVec 32 := 0#32
  let v274 : BitVec 1 := Scalar.cmpi .eq c8_i32_174 c0_i32_175
  let c1_i32_176 : BitVec 32 := 1#32
  let v275 : BitVec 32 := Scalar.select v274 c1_i32_176 c8_i32_174
  let v276 : BitVec 32 := Scalar.remsi v273 v275
  let c0_i32_178 : BitVec 32 := 0#32
  let v278 : BitVec 1 := Scalar.cmpi .slt v276 c0_i32_178
  let c0_i32_179 : BitVec 32 := 0#32
  let v279 : BitVec 1 := Scalar.cmpi .slt v275 c0_i32_179
  let v280 : BitVec 1 := Scalar.xori v278 v279
  let c0_i32_177 : BitVec 32 := 0#32
  let v277 : BitVec 1 := Scalar.cmpi .ne v276 c0_i32_177
  let v281 : BitVec 1 := Scalar.andi v280 v277
  let v282 : BitVec 32 := Scalar.addi v276 v275
  let v283 : BitVec 32 := Scalar.select v281 v282 v276
  let c1_i32_182 : BitVec 32 := 1#32
  let v285 : BitVec 32 := Scalar.muli v283 c1_i32_182
  let v286 : BitVec 32 := Scalar.addi c0_i32_183 v285
  v286.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_187 : BitVec 32 := 32#32
  let v294 : BitVec 32 := Scalar.muli v2 c32_i32_187
  let v295 : Index := Scalar.indexCast v294
  let c0_188 : Index := 0#32
  ![v295.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v298 : Index := Scalar.indexCast v2
  let c0_189 : Index := 0#32
  let c0_190 : Index := 0#32
  ![v298.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_191 : BitVec 32 := 32#32
  let v302 : BitVec 32 := Scalar.muli v2 c32_i32_191
  let v303 : Index := Scalar.indexCast v302
  let c0_192 : Index := 0#32
  ![v303.toNat, 0]
def k0_off7 (d0 : Dev nD) (c1_i32_196 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.addi v2 c1_i32_196
  let c8_i32_197 : BitVec 32 := 8#32
  let c0_i32_198 : BitVec 32 := 0#32
  let v310 : BitVec 1 := Scalar.cmpi .eq c8_i32_197 c0_i32_198
  let c1_i32_199 : BitVec 32 := 1#32
  let v311 : BitVec 32 := Scalar.select v310 c1_i32_199 c8_i32_197
  let v312 : BitVec 32 := Scalar.remsi v309 v311
  let c0_i32_201 : BitVec 32 := 0#32
  let v314 : BitVec 1 := Scalar.cmpi .slt v312 c0_i32_201
  let c0_i32_202 : BitVec 32 := 0#32
  let v315 : BitVec 1 := Scalar.cmpi .slt v311 c0_i32_202
  let v316 : BitVec 1 := Scalar.xori v314 v315
  let c0_i32_200 : BitVec 32 := 0#32
  let v313 : BitVec 1 := Scalar.cmpi .ne v312 c0_i32_200
  let v317 : BitVec 1 := Scalar.andi v316 v313
  let v318 : BitVec 32 := Scalar.addi v312 v311
  let v319 : BitVec 32 := Scalar.select v317 v318 v312
  ![v319.toNat]
def k0_off8 (d0 : Dev nD) (c1_i32_196 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.addi v2 c1_i32_196
  let c8_i32_197 : BitVec 32 := 8#32
  let c0_i32_198 : BitVec 32 := 0#32
  let v310 : BitVec 1 := Scalar.cmpi .eq c8_i32_197 c0_i32_198
  let c1_i32_199 : BitVec 32 := 1#32
  let v311 : BitVec 32 := Scalar.select v310 c1_i32_199 c8_i32_197
  let v312 : BitVec 32 := Scalar.remsi v309 v311
  let c0_i32_201 : BitVec 32 := 0#32
  let v314 : BitVec 1 := Scalar.cmpi .slt v312 c0_i32_201
  let c0_i32_202 : BitVec 32 := 0#32
  let v315 : BitVec 1 := Scalar.cmpi .slt v311 c0_i32_202
  let v316 : BitVec 1 := Scalar.xori v314 v315
  let c0_i32_200 : BitVec 32 := 0#32
  let v313 : BitVec 1 := Scalar.cmpi .ne v312 c0_i32_200
  let v317 : BitVec 1 := Scalar.andi v316 v313
  let v318 : BitVec 32 := Scalar.addi v312 v311
  let v319 : BitVec 32 := Scalar.select v317 v318 v312
  let c0_i32_206 : BitVec 32 := 0#32
  let c0_i32_207 : BitVec 32 := 0#32
  ![v319.toNat, 0, 0]
def k0_dev15 (d0 : Dev nD) : Nat :=
  let c0_i32_344_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_335_r0 : BitVec 32 := 1#32
  let v475_r0 : BitVec 32 := Scalar.addi v2 c1_i32_335_r0
  let c8_i32_336_r0 : BitVec 32 := 8#32
  let c0_i32_337_r0 : BitVec 32 := 0#32
  let v476_r0 : BitVec 1 := Scalar.cmpi .eq c8_i32_336_r0 c0_i32_337_r0
  let c1_i32_338_r0 : BitVec 32 := 1#32
  let v477_r0 : BitVec 32 := Scalar.select v476_r0 c1_i32_338_r0 c8_i32_336_r0
  let v478_r0 : BitVec 32 := Scalar.remsi v475_r0 v477_r0
  let c0_i32_340_r0 : BitVec 32 := 0#32
  let v480_r0 : BitVec 1 := Scalar.cmpi .slt v478_r0 c0_i32_340_r0
  let c0_i32_341_r0 : BitVec 32 := 0#32
  let v481_r0 : BitVec 1 := Scalar.cmpi .slt v477_r0 c0_i32_341_r0
  let v482_r0 : BitVec 1 := Scalar.xori v480_r0 v481_r0
  let c0_i32_339_r0 : BitVec 32 := 0#32
  let v479_r0 : BitVec 1 := Scalar.cmpi .ne v478_r0 c0_i32_339_r0
  let v483_r0 : BitVec 1 := Scalar.andi v482_r0 v479_r0
  let v484_r0 : BitVec 32 := Scalar.addi v478_r0 v477_r0
  let v485_r0 : BitVec 32 := Scalar.select v483_r0 v484_r0 v478_r0
  let c1_i32_343_r0 : BitVec 32 := 1#32
  let v486_r0 : BitVec 32 := Scalar.muli v485_r0 c1_i32_343_r0
  let v487_r0 : BitVec 32 := Scalar.addi c0_i32_344_r0 v486_r0
  v487_r0.toNat
def k0_dev16 (d0 : Dev nD) : Nat :=
  let c0_i32_354_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_345_r0 : BitVec 32 := 2#32
  let v488_r0 : BitVec 32 := Scalar.addi v2 c2_i32_345_r0
  let c8_i32_346_r0 : BitVec 32 := 8#32
  let c0_i32_347_r0 : BitVec 32 := 0#32
  let v489_r0 : BitVec 1 := Scalar.cmpi .eq c8_i32_346_r0 c0_i32_347_r0
  let c1_i32_348_r0 : BitVec 32 := 1#32
  let v490_r0 : BitVec 32 := Scalar.select v489_r0 c1_i32_348_r0 c8_i32_346_r0
  let v491_r0 : BitVec 32 := Scalar.remsi v488_r0 v490_r0
  let c0_i32_350_r0 : BitVec 32 := 0#32
  let v493_r0 : BitVec 1 := Scalar.cmpi .slt v491_r0 c0_i32_350_r0
  let c0_i32_351_r0 : BitVec 32 := 0#32
  let v494_r0 : BitVec 1 := Scalar.cmpi .slt v490_r0 c0_i32_351_r0
  let v495_r0 : BitVec 1 := Scalar.xori v493_r0 v494_r0
  let c0_i32_349_r0 : BitVec 32 := 0#32
  let v492_r0 : BitVec 1 := Scalar.cmpi .ne v491_r0 c0_i32_349_r0
  let v496_r0 : BitVec 1 := Scalar.andi v495_r0 v492_r0
  let v497_r0 : BitVec 32 := Scalar.addi v491_r0 v490_r0
  let v498_r0 : BitVec 32 := Scalar.select v496_r0 v497_r0 v491_r0
  let c1_i32_353_r0 : BitVec 32 := 1#32
  let v499_r0 : BitVec 32 := Scalar.muli v498_r0 c1_i32_353_r0
  let v500_r0 : BitVec 32 := Scalar.addi c0_i32_354_r0 v499_r0
  v500_r0.toNat
def k0_dev17 (d0 : Dev nD) : Nat :=
  let c0_i32_364_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_355_r0 : BitVec 32 := 3#32
  let v501_r0 : BitVec 32 := Scalar.addi v2 c3_i32_355_r0
  let c8_i32_356_r0 : BitVec 32 := 8#32
  let c0_i32_357_r0 : BitVec 32 := 0#32
  let v502_r0 : BitVec 1 := Scalar.cmpi .eq c8_i32_356_r0 c0_i32_357_r0
  let c1_i32_358_r0 : BitVec 32 := 1#32
  let v503_r0 : BitVec 32 := Scalar.select v502_r0 c1_i32_358_r0 c8_i32_356_r0
  let v504_r0 : BitVec 32 := Scalar.remsi v501_r0 v503_r0
  let c0_i32_360_r0 : BitVec 32 := 0#32
  let v506_r0 : BitVec 1 := Scalar.cmpi .slt v504_r0 c0_i32_360_r0
  let c0_i32_361_r0 : BitVec 32 := 0#32
  let v507_r0 : BitVec 1 := Scalar.cmpi .slt v503_r0 c0_i32_361_r0
  let v508_r0 : BitVec 1 := Scalar.xori v506_r0 v507_r0
  let c0_i32_359_r0 : BitVec 32 := 0#32
  let v505_r0 : BitVec 1 := Scalar.cmpi .ne v504_r0 c0_i32_359_r0
  let v509_r0 : BitVec 1 := Scalar.andi v508_r0 v505_r0
  let v510_r0 : BitVec 32 := Scalar.addi v504_r0 v503_r0
  let v511_r0 : BitVec 32 := Scalar.select v509_r0 v510_r0 v504_r0
  let c1_i32_363_r0 : BitVec 32 := 1#32
  let v512_r0 : BitVec 32 := Scalar.muli v511_r0 c1_i32_363_r0
  let v513_r0 : BitVec 32 := Scalar.addi c0_i32_364_r0 v512_r0
  v513_r0.toNat
def k0_dev18 (d0 : Dev nD) : Nat :=
  let c0_i32_374_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_365_r0 : BitVec 32 := 4#32
  let v514_r0 : BitVec 32 := Scalar.addi v2 c4_i32_365_r0
  let c8_i32_366_r0 : BitVec 32 := 8#32
  let c0_i32_367_r0 : BitVec 32 := 0#32
  let v515_r0 : BitVec 1 := Scalar.cmpi .eq c8_i32_366_r0 c0_i32_367_r0
  let c1_i32_368_r0 : BitVec 32 := 1#32
  let v516_r0 : BitVec 32 := Scalar.select v515_r0 c1_i32_368_r0 c8_i32_366_r0
  let v517_r0 : BitVec 32 := Scalar.remsi v514_r0 v516_r0
  let c0_i32_370_r0 : BitVec 32 := 0#32
  let v519_r0 : BitVec 1 := Scalar.cmpi .slt v517_r0 c0_i32_370_r0
  let c0_i32_371_r0 : BitVec 32 := 0#32
  let v520_r0 : BitVec 1 := Scalar.cmpi .slt v516_r0 c0_i32_371_r0
  let v521_r0 : BitVec 1 := Scalar.xori v519_r0 v520_r0
  let c0_i32_369_r0 : BitVec 32 := 0#32
  let v518_r0 : BitVec 1 := Scalar.cmpi .ne v517_r0 c0_i32_369_r0
  let v522_r0 : BitVec 1 := Scalar.andi v521_r0 v518_r0
  let v523_r0 : BitVec 32 := Scalar.addi v517_r0 v516_r0
  let v524_r0 : BitVec 32 := Scalar.select v522_r0 v523_r0 v517_r0
  let c1_i32_373_r0 : BitVec 32 := 1#32
  let v525_r0 : BitVec 32 := Scalar.muli v524_r0 c1_i32_373_r0
  let v526_r0 : BitVec 32 := Scalar.addi c0_i32_374_r0 v525_r0
  v526_r0.toNat
def k0_dev19 (d0 : Dev nD) : Nat :=
  let c0_i32_384_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_375_r0 : BitVec 32 := 5#32
  let v527_r0 : BitVec 32 := Scalar.addi v2 c5_i32_375_r0
  let c8_i32_376_r0 : BitVec 32 := 8#32
  let c0_i32_377_r0 : BitVec 32 := 0#32
  let v528_r0 : BitVec 1 := Scalar.cmpi .eq c8_i32_376_r0 c0_i32_377_r0
  let c1_i32_378_r0 : BitVec 32 := 1#32
  let v529_r0 : BitVec 32 := Scalar.select v528_r0 c1_i32_378_r0 c8_i32_376_r0
  let v530_r0 : BitVec 32 := Scalar.remsi v527_r0 v529_r0
  let c0_i32_380_r0 : BitVec 32 := 0#32
  let v532_r0 : BitVec 1 := Scalar.cmpi .slt v530_r0 c0_i32_380_r0
  let c0_i32_381_r0 : BitVec 32 := 0#32
  let v533_r0 : BitVec 1 := Scalar.cmpi .slt v529_r0 c0_i32_381_r0
  let v534_r0 : BitVec 1 := Scalar.xori v532_r0 v533_r0
  let c0_i32_379_r0 : BitVec 32 := 0#32
  let v531_r0 : BitVec 1 := Scalar.cmpi .ne v530_r0 c0_i32_379_r0
  let v535_r0 : BitVec 1 := Scalar.andi v534_r0 v531_r0
  let v536_r0 : BitVec 32 := Scalar.addi v530_r0 v529_r0
  let v537_r0 : BitVec 32 := Scalar.select v535_r0 v536_r0 v530_r0
  let c1_i32_383_r0 : BitVec 32 := 1#32
  let v538_r0 : BitVec 32 := Scalar.muli v537_r0 c1_i32_383_r0
  let v539_r0 : BitVec 32 := Scalar.addi c0_i32_384_r0 v538_r0
  v539_r0.toNat
def k0_dev20 (d0 : Dev nD) : Nat :=
  let c0_i32_394_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_385_r0 : BitVec 32 := 6#32
  let v540_r0 : BitVec 32 := Scalar.addi v2 c6_i32_385_r0
  let c8_i32_386_r0 : BitVec 32 := 8#32
  let c0_i32_387_r0 : BitVec 32 := 0#32
  let v541_r0 : BitVec 1 := Scalar.cmpi .eq c8_i32_386_r0 c0_i32_387_r0
  let c1_i32_388_r0 : BitVec 32 := 1#32
  let v542_r0 : BitVec 32 := Scalar.select v541_r0 c1_i32_388_r0 c8_i32_386_r0
  let v543_r0 : BitVec 32 := Scalar.remsi v540_r0 v542_r0
  let c0_i32_390_r0 : BitVec 32 := 0#32
  let v545_r0 : BitVec 1 := Scalar.cmpi .slt v543_r0 c0_i32_390_r0
  let c0_i32_391_r0 : BitVec 32 := 0#32
  let v546_r0 : BitVec 1 := Scalar.cmpi .slt v542_r0 c0_i32_391_r0
  let v547_r0 : BitVec 1 := Scalar.xori v545_r0 v546_r0
  let c0_i32_389_r0 : BitVec 32 := 0#32
  let v544_r0 : BitVec 1 := Scalar.cmpi .ne v543_r0 c0_i32_389_r0
  let v548_r0 : BitVec 1 := Scalar.andi v547_r0 v544_r0
  let v549_r0 : BitVec 32 := Scalar.addi v543_r0 v542_r0
  let v550_r0 : BitVec 32 := Scalar.select v548_r0 v549_r0 v543_r0
  let c1_i32_393_r0 : BitVec 32 := 1#32
  let v551_r0 : BitVec 32 := Scalar.muli v550_r0 c1_i32_393_r0
  let v552_r0 : BitVec 32 := Scalar.addi c0_i32_394_r0 v551_r0
  v552_r0.toNat
def k0_dev21 (d0 : Dev nD) : Nat :=
  let c0_i32_404_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_395_r0 : BitVec 32 := 7#32
  let v553_r0 : BitVec 32 := Scalar.addi v2 c7_i32_395_r0
  let c8_i32_396_r0 : BitVec 32 := 8#32
  let c0_i32_397_r0 : BitVec 32 := 0#32
  let v554_r0 : BitVec 1 := Scalar.cmpi .eq c8_i32_396_r0 c0_i32_397_r0
  let c1_i32_398_r0 : BitVec 32 := 1#32
  let v555_r0 : BitVec 32 := Scalar.select v554_r0 c1_i32_398_r0 c8_i32_396_r0
  let v556_r0 : BitVec 32 := Scalar.remsi v553_r0 v555_r0
  let c0_i32_400_r0 : BitVec 32 := 0#32
  let v558_r0 : BitVec 1 := Scalar.cmpi .slt v556_r0 c0_i32_400_r0
  let c0_i32_401_r0 : BitVec 32 := 0#32
  let v559_r0 : BitVec 1 := Scalar.cmpi .slt v555_r0 c0_i32_401_r0
  let v560_r0 : BitVec 1 := Scalar.xori v558_r0 v559_r0
  let c0_i32_399_r0 : BitVec 32 := 0#32
  let v557_r0 : BitVec 1 := Scalar.cmpi .ne v556_r0 c0_i32_399_r0
  let v561_r0 : BitVec 1 := Scalar.andi v560_r0 v557_r0
  let v562_r0 : BitVec 32 := Scalar.addi v556_r0 v555_r0
  let v563_r0 : BitVec 32 := Scalar.select v561_r0 v562_r0 v556_r0
  let c1_i32_403_r0 : BitVec 32 := 1#32
  let v564_r0 : BitVec 32 := Scalar.muli v563_r0 c1_i32_403_r0
  let v565_r0 : BitVec 32 := Scalar.addi c0_i32_404_r0 v564_r0
  v565_r0.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S128x256 : Shape := ⟨2, ![128, 256]⟩
abbrev S256x16 : Shape := ⟨2, ![256, 16]⟩
abbrev S_ : Shape := ⟨0, ![]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S256x128x256 : Shape := ⟨3, ![256, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S16x128x256, .bf16⟩
  | .hbm, ⟨4, _⟩ => ⟨S128x256, .bf16⟩
  | .hbm, ⟨5, _⟩ => ⟨S256x128, .f32⟩
  | .hbm, ⟨6, _⟩ => ⟨S128x16, .f32⟩
  | .hbm, ⟨7, _⟩ => ⟨S256x16, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x16, .f32⟩
  | .hbm, ⟨12, _⟩ => ⟨S256x16, .f32⟩
  | .hbm, ⟨13, _⟩ => ⟨S256x16, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x16, .f32⟩
  | .hbm, ⟨18, _⟩ => ⟨S256x16, .f32⟩
  | .hbm, ⟨19, _⟩ => ⟨S128x256, .f32⟩
  | .hbm, ⟨20, _⟩ => ⟨S256x256, .f32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S256x1, .i32⟩
  | .hbm, ⟨25, _⟩ => ⟨S256x2, .i32⟩
  | .hbm, ⟨26, _⟩ => ⟨S2, .i32⟩
  | .hbm, ⟨27, _⟩ => ⟨S_, .i32⟩
  | .hbm, ⟨28, _⟩ => ⟨S256x2, .i32⟩
  | .hbm, ⟨29, _⟩ => ⟨S256x2, .i1⟩
  | .hbm, ⟨30, _⟩ => ⟨S1x2, .i32⟩
  | .hbm, ⟨31, _⟩ => ⟨S256x2, .i32⟩
  | .hbm, ⟨32, _⟩ => ⟨S256x2, .i1⟩
  | .hbm, ⟨33, _⟩ => ⟨S256x2, .i1⟩
  | .hbm, ⟨34, _⟩ => ⟨S_, .i1⟩
  | .hbm, ⟨35, _⟩ => ⟨S256, .i1⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256x1, .f32⟩
  | .hbm, ⟨41, _⟩ => ⟨S16x128x256, .f32⟩
  | .hbm, ⟨42, _⟩ => ⟨S256x1, .i32⟩
  | .hbm, ⟨43, _⟩ => ⟨S1, .i32⟩
  | .hbm, ⟨44, _⟩ => ⟨S_, .i32⟩
  | .hbm, ⟨45, _⟩ => ⟨S256x1, .i32⟩
  | .hbm, ⟨46, _⟩ => ⟨S256x1, .i1⟩
  | .hbm, ⟨47, _⟩ => ⟨S1x1, .i32⟩
  | .hbm, ⟨48, _⟩ => ⟨S256x1, .i32⟩
  | .hbm, ⟨49, _⟩ => ⟨S256x1, .i1⟩
  | .hbm, ⟨50, _⟩ => ⟨S256x1, .i1⟩
  | .hbm, ⟨51, _⟩ => ⟨S_, .i1⟩
  | .hbm, ⟨52, _⟩ => ⟨S256, .i1⟩
  | .hbm, ⟨53, _⟩ => ⟨S256x128x256, .f32⟩
  | .hbm, ⟨54, _⟩ => ⟨S256x128x256, .i1⟩
  | .hbm, ⟨55, _⟩ => ⟨S_, .f32⟩
  | .hbm, ⟨56, _⟩ => ⟨S256x128x256, .f32⟩
  | .hbm, ⟨57, _⟩ => ⟨S256x128x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Protocol.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# The all-to-all exchange: cells, contents, schedule, levels

Device `c` computes its two experts' contribution to every token (`accAt c`, 256 rows), sends row block `e` of it to
slot `c` of device `e`'s landing buffer, and adds up the eight slots of its own landing buffer. Four kinds of
semaphore cells carry the exchange, each used for one round:

* the runtime's barrier cell (`bar`): every other device signals it once, handing over slot `c` of its landing buffer;
* the send cell of each step `k = 1..7`: paid by the copy's departure, returning the row block that was sent;
* the receive cell of each slot `s ≠ c`: paid by device `s`'s copy, returning slot `s` with device `s`'s row block;
* the exit cell (`fin`): every other device signals it once, handing over nothing.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices, memrefs and cells -/

/-- The device `k` places after `c`. -/
def peer (c : Dev nD) (k : ℕ) : Dev nD := ⟨(c.val + k) % 8, Nat.mod_lt _ (by decide)⟩

theorem peer_ne (c : Dev nD) (k : ℕ) (h1 : 1 ≤ k) (h7 : k ≤ 7) : peer c k ≠ c := fun h => by
  have h := congrArg Fin.val h
  have : (c.val + k) % 8 = c.val := h
  have hc : c.val < 8 := c.isLt
  omega

abbrev accM : Memref sig .tc .vmem S256x256 .f32 := Memref.whole cc0_scratch0
abbrev recvM : Memref sig .tc .vmem S8x32x256 .f32 := Memref.whole cc0_scratch1

/-- The runtime's barrier semaphore, and the scoped semaphore of the exit rendezvous. -/
abbrev barS : Sem sig := (SemArray.scalar (sig.barrier 0 rfl) : Sems sig S_).sem
abbrev finS : Sem sig := (cc0_scoped0 : Sems sig S_).sem
/-- The send semaphore of step `k`, and the receive semaphore of slot `s`. -/
def sendS (k : Fin 8) : DmaSem sig := (⟨6 + k.val, by omega⟩ : Fin 22)
def recvS (s : Fin 8) : DmaSem sig := (⟨14 + s.val, by omega⟩ : Fin 22)

abbrev barCell (c : Dev nD) : GSem nD τ sig := ((c : Thread nD τ), .reg barS)
abbrev finCell (c : Dev nD) : GSem nD τ sig := ((c : Thread nD τ), .reg finS)
abbrev sendCell (c : Dev nD) (k : Fin 8) : GSem nD τ sig := ((c : Thread nD τ), .dma (sendS k))
abbrev recvCell (c : Dev nD) (s : Fin 8) : GSem nD τ sig := ((c : Thread nD τ), .dma (recvS s))

/-- The kernel's own (scoped) semaphores, as the launch theorem indexes them: exit, sends, receives; -/
def osem (i : Fin 17) : SemLoc sig := if i.val = 0 then .reg finS else .dma (⟨5 + i.val, by omega⟩ : Fin 22)
/-- and the barrier before them. -/
def csem (i : Fin 18) : SemLoc sig :=
  if i.val = 0 then .reg barS else if i.val = 1 then .reg finS else .dma (⟨4 + i.val, by omega⟩ : Fin 22)
abbrev kcell (ck : Dev nD × Fin 18) : GSem nD τ sig := ((ck.1 : Thread nD τ), csem ck.2)

/-- The indices of the cells among the eighteen. -/
def sendI (k : Fin 8) : Fin 18 := ⟨2 + k.val, by omega⟩
def recvI (s : Fin 8) : Fin 18 := ⟨10 + s.val, by omega⟩

theorem csem_bar : csem 0 = .reg barS := rfl
theorem csem_fin : csem 1 = .reg finS := rfl
theorem csem_send (k : Fin 8) : csem (sendI k) = .dma (sendS k) := by revert k; decide
theorem csem_recv (s : Fin 8) : csem (recvI s) = .dma (recvS s) := by revert s; decide
theorem csem_succ (i : Fin 17) : csem i.succ = osem i := by revert i; decide

/-- The credit of one copied row block. -/
abbrev N : ℕ := ((recvM.slice (Rect.unit (s := S8x32x256) ![0, 0, 0] S1x32x256.size (by decide)) (fun _ => rfl)).squeeze S32x256 (by decide) :
  Memref sig .tc .vmem S32x256 .f32).view.dmaCredit

/-! ## Contents -/

/-- What the staging buffer of argument window `w` holds: the argument's array. -/
def xstg (c : Dev nD) : (cc0_stg0_0 : Ref sig .tc).ty.Contents (Elt F) := (s₀ m ρ).mem ((c : Thread nD τ).loc main_arg0)
def rwstg (c : Dev nD) : (cc0_stg1_0 : Ref sig .tc).ty.Contents (Elt F) := (s₀ m ρ).mem ((c : Thread nD τ).loc main_arg1)
def idxstg (c : Dev nD) : (cc0_stg2_0 : Ref sig .tc).ty.Contents (Elt F) := (s₀ m ρ).mem ((c : Thread nD τ).loc main_arg2)
def ewstg (c : Dev nD) : (cc0_stg3_0 : Ref sig .tc).ty.Contents (Elt F) := (s₀ m ρ).mem ((c : Thread nD τ).loc main_arg3)
def swstg (c : Dev nD) : (cc0_stg4_0 : Ref sig .tc).ty.Contents (Elt F) := (s₀ m ρ).mem ((c : Thread nD τ).loc main_arg4)

/-- The device's own index, as the kernel computes it. -/
abbrev myW (c : Dev nD) : BitVec 32 := Scalar.remsi (Scalar.divsi (Dev.word c) 1#32) 8#32

abbrev rE0 : Rect S2x128x256 := Rect.unit (s := S2x128x256) ![0, 0, 0] S1x128x256.size inb_S2x128x256_S1x128x256_0_0_0
abbrev rE1 : Rect S2x128x256 := Rect.unit (s := S2x128x256) ![1, 0, 0] S1x128x256.size inb_S2x128x256_S1x128x256_1_0_0

/-- The two experts' weights device `c` holds. -/
def w0 (c : Dev nD) : Vec F S1x128x256 .bf16 := (Memref.whole cc0_stg3_0 : Memref sig .tc .vmem S2x128x256 .bf16).view.readAt (Elt F) rE0.toLoadRect (ewstg m ρ c)
def w1 (c : Dev nD) : Vec F S1x128x256 .bf16 := (Memref.whole cc0_stg3_0 : Memref sig .tc .vmem S2x128x256 .bf16).view.readAt (Elt F) rE1.toLoadRect (ewstg m ρ c)

/-- Device `c`'s two experts' contribution to every token. -/
def accAt (c : Dev nD) : (cc0_scratch0 : Ref sig .tc).ty.Contents (Elt F) :=
  k0_pay6 (k0_pay1 (idxstg m ρ c)) (k0_pay2 (xstg m ρ c) (rwstg m ρ c) (idxstg m ρ c)) (k0_pay3 (xstg m ρ c))
    (k0_pay4 (myW c) (xstg m ρ c) (rwstg m ρ c) (idxstg m ρ c) (xstg m ρ c) (w0 m ρ c)) (k0_pay5 (myW c)) (w1 m ρ c)

/-- Row `r` of device `c`'s block of the tokens, column `o`. -/
def rowIx (c : Fin 8) (r : Fin 32) (o : Fin 256) : S256x256.Idx :=
  fun a => match a with
  | ⟨0, _⟩ => (⟨32 * c.val + r.val, by omega⟩ : Fin 256)
  | ⟨1, _⟩ => o

/-- The landing buffer of device `c` once every block has arrived: slot `s` holds device `s`'s rows for `c`. -/
def recvAll (c : Dev nD) : (cc0_scratch1 : Ref sig .tc).ty.Contents (Elt F) :=
  fun (i : S8x32x256.Idx) => accAt m ρ (i 0) (rowIx c (i 1) (i 2))

/-- Device `c`'s own rows of the tokens. -/
def xmine (c : Dev nD) : Vec F S32x128 .bf16 :=
  (Memref.whole cc0_stg0_0 : Memref sig .tc .vmem S256x128 .bf16).view.readAt (Elt F)
    (Rect.unit (s := S256x128) (k0_off6 c) S32x128.size (k0_off6_inb c)).toLoadRect (xstg m ρ c)

/-- The kernel's result on device `c`. -/
def outAt (c : Dev nD) : (cc0_stg5_0 : Ref sig .tc).ty.Contents (Elt F) := k0_pay9 (k0_pay8 (xmine m ρ c) (swstg m ρ c)) (recvAll m ρ c)

/-- Slot `e` of the landing buffer; row block `e` of the contribution. -/
def slotSet (e : Fin 8) : Finset (Idx ((recvM : Memref sig .tc .vmem S8x32x256 .f32).view.loc ((0 : Dev nD) : Thread nD τ))) :=
  Finset.univ.filter fun i : S8x32x256.Idx => (i 0).val = e.val
def rowSet (e : Fin 8) : Finset (Idx ((accM : Memref sig .tc .vmem S256x256 .f32).view.loc ((0 : Dev nD) : Thread nD τ))) :=
  Finset.univ.filter fun i : S256x256.Idx => (i 0).val / 32 = e.val

def slotPts (c : Dev nD) (e : Fin 8) (f : Buf (Elt F) ((c : Thread nD τ).loc cc0_scratch1)) : sProp 𝕄 :=
  ((c : Thread nD τ).loc cc0_scratch1) ↦[slotSet e]{fullShare} f
def rowPts (c : Dev nD) (e : Fin 8) (f : Buf (Elt F) ((c : Thread nD τ).loc cc0_scratch0)) : sProp 𝕄 :=
  ((c : Thread nD τ).loc cc0_scratch0) ↦[rowSet e]{fullShare} f

omit [FloatOps F] in
instance slotPts_storable (c : Dev nD) (e : Fin 8) (f) : BI.Storable (upEmb : UEmb _ 𝕄) (slotPts (F := F) c e f) := by unfold slotPts; infer_instance
omit [FloatOps F] in
instance rowPts_storable (c : Dev nD) (e : Fin 8) (f) : BI.Storable (upEmb : UEmb _ 𝕄) (rowPts (F := F) c e f) := by unfold rowPts; infer_instance

/-! ## The schedule -/

/-- What device `d`'s signal of device `c`'s barrier cell hands over: slot `c` of `d`'s landing buffer. -/
def barPay (c d : Dev nD) : sProp 𝕄 := iprop(∃ f, slotPts (F := F) d c f)
def recvPay (c : Dev nD) (s : Fin 8) : sProp 𝕄 := slotPts c s (recvAll m ρ c)
def sendPay (c : Dev nD) (k : Fin 8) : sProp 𝕄 := rowPts c (peer c k.val) (accAt m ρ c)

/-- The duties of device `c`'s cell: one from every other device at the two rendezvous, one at a send or receive cell in use. -/
def dutiesOf (c : Dev nD) : SemLoc sig → Finset (Fin 8)
  | .reg _ => Finset.univ.erase c
  | .dma i => if i.val ≤ 6 ∨ i.val = 14 + c.val then ∅ else {0}

def payOf (c : Dev nD) (d : Fin 8) : SemLoc sig → sProp 𝕄
  | .reg i => if i = barS then barPay c d else iprop(emp)
  | .dma i => if h : 14 ≤ i.val then recvPay m ρ c (⟨i.val - 14, by have : i.val < 22 := i.isLt; omega⟩ : Fin 8)
      else if h : 6 ≤ i.val then sendPay m ρ c (⟨i.val - 6, by have : i.val < 22 := i.isLt; omega⟩ : Fin 8) else iprop(emp)

def amountOf : SemLoc sig → ℕ
  | .reg _ => 1
  | .dma _ => N

theorem N_pos : 0 < N := View.dmaCredit_pos _ (by decide)

/-- The schedule: one round, round 0, of every TensorCore cell. -/
def Rd : Rounds.Schedule (GSem nD τ sig) (Fin 8) 𝕄 where
  duties g r := if r = 0 ∧ g.1.2 = .tc then dutiesOf g.1.1 g.2 else ∅
  unitless _ := False
  amount g _ _ := amountOf g.2
  payload g _ d := payOf m ρ g.1.1 d g.2
  amount_pos g _ _ _ := by
    rcases g with ⟨t, s | s⟩
    · exact Nat.one_pos
    · exact N_pos

instance Rd_payload_storable (g : GSem nD τ sig) (r : ℕ) (d : Fin 8) :
    BI.Storable (upEmb : UEmb _ 𝕄) ((Rd (F := F) m ρ).payload g r d) := by
  show BI.Storable upEmb (payOf m ρ g.1.1 d g.2)
  rcases g with ⟨t, s | s⟩
  · show BI.Storable upEmb (if s = barS then barPay t.1 d else iprop(emp))
    unfold barPay; split <;> infer_instance
  · unfold payOf recvPay sendPay; dsimp only; (repeat' split) <;> infer_instance

section Sched
variable (c : Dev nD)

theorem fin_ne_bar : finS ≠ barS := by decide
theorem peer_inj {k l : Fin 8} (h : peer c k.val = peer c l.val) : k = l := by revert c k l; decide

theorem duties_zero (sm : SemLoc sig) : (Rd (F := F) m ρ).duties ((c : Thread nD τ), sm) 0 = dutiesOf c sm := by
  dsimp only [Rd]
  exact if_pos ⟨rfl, rfl⟩
theorem duties_bar : (Rd (F := F) m ρ).duties (barCell c) 0 = Finset.univ.erase c := duties_zero m ρ c _
theorem duties_fin : (Rd (F := F) m ρ).duties (finCell c) 0 = Finset.univ.erase c := duties_zero m ρ c _
theorem duties_send (k : Fin 8) (hk : k ≠ 0) : (Rd (F := F) m ρ).duties (sendCell c k) 0 = {0} := by
  refine (duties_zero m ρ c _).trans ?_
  have hk' : k.val ≠ 0 := fun h => hk (Fin.ext h)
  show (if 6 + k.val ≤ 6 ∨ 6 + k.val = 14 + c.val then (∅ : Finset (Fin 8)) else {0}) = {0}
  exact if_neg (by omega)
theorem duties_recv (s : Fin 8) (hs : s ≠ c) : (Rd (F := F) m ρ).duties (recvCell c s) 0 = {0} := by
  refine (duties_zero m ρ c _).trans ?_
  have hk' : s.val ≠ c.val := fun h => hs (Fin.ext h)
  show (if 14 + s.val ≤ 6 ∨ 14 + s.val = 14 + c.val then (∅ : Finset (Fin 8)) else {0}) = {0}
  exact if_neg (by omega)
theorem duties_later (g : GSem nD τ sig) : ∀ r, 1 ≤ r → (Rd (F := F) m ρ).duties g r = ∅ :=
  fun r hr => by dsimp only [Rd]; exact if_neg fun h => by omega
theorem duties_send0 : ∀ r, 0 ≤ r → (Rd (F := F) m ρ).duties (sendCell c 0) r = ∅ := fun r _ => by
  rcases Nat.eq_zero_or_pos r with rfl | hr
  · refine (duties_zero m ρ c _).trans ?_
    show (if 6 + 0 ≤ 6 ∨ 6 + 0 = 14 + c.val then (∅ : Finset (Fin 8)) else {0}) = ∅
    exact if_pos (.inl le_rfl)
  · exact duties_later m ρ _ r hr
theorem duties_recv0 : ∀ r, 0 ≤ r → (Rd (F := F) m ρ).duties (recvCell c c) r = ∅ := fun r _ => by
  rcases Nat.eq_zero_or_pos r with rfl | hr
  · refine (duties_zero m ρ c _).trans ?_
    show (if 14 + c.val ≤ 6 ∨ 14 + c.val = 14 + c.val then (∅ : Finset (Fin 8)) else {0}) = ∅
    exact if_pos (.inr rfl)
  · exact duties_later m ρ _ r hr

theorem card_others : (Finset.univ.erase c : Finset (Fin 8)).card = 7 := by
  rw [Finset.card_erase_of_mem (Finset.mem_univ _)]; rfl

theorem expect_bar : (Rd (F := F) m ρ).expect (barCell c) 0 = 7 := by
  unfold Schedule.expect Schedule.amountOf
  rw [duties_bar, Finset.sum_congr rfl fun d _ => (rfl : (Rd (F := F) m ρ).amount (barCell c) 0 d = 1)]
  show ∑ _d ∈ Finset.univ.erase c, 1 = 7
  rw [Finset.sum_const, card_others]; rfl
theorem expect_fin : (Rd (F := F) m ρ).expect (finCell c) 0 = 7 := by
  unfold Schedule.expect Schedule.amountOf
  rw [duties_fin, Finset.sum_congr rfl fun d _ => (rfl : (Rd (F := F) m ρ).amount (finCell c) 0 d = 1)]
  show ∑ _d ∈ Finset.univ.erase c, 1 = 7
  rw [Finset.sum_const, card_others]; rfl
theorem expect_send (k : Fin 8) (hk : k ≠ 0) : (Rd (F := F) m ρ).expect (sendCell c k) 0 = N := by
  unfold Schedule.expect Schedule.amountOf; rw [duties_send m ρ c k hk, Finset.sum_singleton]; rfl
theorem expect_recv (s : Fin 8) (hs : s ≠ c) : (Rd (F := F) m ρ).expect (recvCell c s) 0 = N := by
  unfold Schedule.expect Schedule.amountOf; rw [duties_recv m ρ c s hs, Finset.sum_singleton]; rfl

theorem payload_bar (d : Fin 8) : (Rd (F := F) m ρ).payload (barCell c) 0 d = barPay c d := by
  show (if barS = barS then barPay c d else iprop(emp)) = _; exact if_pos rfl
theorem payload_fin (d : Fin 8) : (Rd (F := F) m ρ).payload (finCell c) 0 d = iprop(emp) := by
  show (if finS = barS then barPay c d else iprop(emp)) = _; exact if_neg fin_ne_bar
theorem payload_send (k d : Fin 8) : (Rd (F := F) m ρ).payload (sendCell c k) 0 d = sendPay m ρ c k := by
  show payOf m ρ c d (.dma (sendS k)) = _
  unfold payOf sendS; dsimp only
  rw [dif_neg (by omega), dif_pos (by omega)]
  congr 1; exact Fin.ext (by dsimp only; omega)
theorem payload_recv (s d : Fin 8) : (Rd (F := F) m ρ).payload (recvCell c s) 0 d = recvPay m ρ c s := by
  show payOf m ρ c d (.dma (recvS s)) = _
  unfold payOf recvS; dsimp only
  rw [dif_pos (by omega)]
  congr 1; exact Fin.ext (by dsimp only; omega)

theorem rest_bar : bigSep ((Rd (F := F) m ρ).duties (barCell c) 0 \ ∅) (fun d => (Rd (F := F) m ρ).payload (barCell c) 0 d)
    = bigSep (Finset.univ.erase c) (fun d => barPay c d) := by
  rw [Finset.sdiff_empty, duties_bar]; exact bigSep_congr fun d _ => payload_bar m ρ c d
theorem rest_send (k : Fin 8) (hk : k ≠ 0) :
    bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send]
theorem rest_recv (s : Fin 8) (hs : s ≠ c) :
    bigSep ((Rd (F := F) m ρ).duties (recvCell c s) 0 \ ∅) (fun d => (Rd (F := F) m ρ).payload (recvCell c s) 0 d) = recvPay m ρ c s := by
  rw [Finset.sdiff_empty, duties_recv m ρ c s hs, bigSep_singleton, payload_recv]

end Sched

/-! ## What each core owes at launch; the levels -/

/-- Device `c` owes every other device's receive cell for it, exit cell and barrier cell; the body pays the barrier cells
    first (`k = 1..7`), then the receive cells, then the exit cells, so each step peels the last summand: `owFin c n` is
    what is left of the exit cells before step `7 - n + 1`, and so on. -/
def owFin (c : Dev nD) : ℕ → CellTallies nD τ sig Unit
  | 0 => 0
  | n + 1 => owFin c n + tallyAt (finCell (peer c (7 - n))) () 1
def owRecv (c : Dev nD) : ℕ → CellTallies nD τ sig Unit
  | 0 => owFin c 7
  | n + 1 => owRecv c n + tallyAt (recvCell (peer c (7 - n)) c) () N
def owBar (c : Dev nD) : ℕ → CellTallies nD τ sig Unit
  | 0 => owRecv c 7
  | n + 1 => owBar c n + tallyAt (barCell (peer c (7 - n))) () 1
abbrev O₀ (c : Dev nD) : CellTallies nD τ sig Unit := owBar c 7

def L (g : GSem nD τ sig) : Finset Unit := if g.1.2 = .tc then {()} else ∅
/-- Staging and send cells at 0, barrier cells at 1, receive cells at 2, exit cells at 3. -/
def lv (g : GSem nD τ sig) (_ : Unit) : ℕ := match g.2 with
  | .reg i => if i = barS then 1 else 3
  | .dma i => if 14 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (if barS = barS then 1 else 3) = 1; exact if_pos rfl
theorem lv_fin (c : Dev nD) : lv (finCell c) () = 3 := by
  show (if finS = barS then 1 else 3) = 3; exact if_neg fin_ne_bar
theorem lv_recv (c : Dev nD) (s : Fin 8) : lv (recvCell c s) () = 2 := if_pos (by show 14 ≤ 14 + s.val; omega)

/-- A tally whose every positive cell is a TensorCore's, at a level above `b`. -/
def Above (b : ℕ) (O : CellTallies nD τ sig Unit) : Prop := ∀ g u, 0 < O g u → g.1.2 = .tc ∧ b < lv g ()

theorem above_zero (b : ℕ) : Above b 0 := fun g u h => absurd h (Nat.lt_irrefl 0)
theorem above_add {b : ℕ} {O : CellTallies nD τ sig Unit} (hO : Above b O) (g : GSem nD τ sig) (n : ℕ) (hg : g.1.2 = .tc ∧ b < lv g ()) :
    Above b (O + tallyAt g () n) := fun g' u h => by
  rw [Pi.add_apply, Finsupp.add_apply, tallyAt_apply] at h
  by_cases he : g' = g ∧ u = ()
  · rw [he.1]; exact hg
  · rw [if_neg he, add_zero] at h; exact hO g' u h

theorem above_fin (c : Dev nD) : ∀ n, Above 2 (owFin c n)
  | 0 => above_zero _
  | n + 1 => above_add (above_fin c n) _ _ ⟨rfl, by rw [lv_fin]; decide⟩
theorem above_mono {a b : ℕ} (h : a ≤ b) {O : CellTallies nD τ sig Unit} (hO : Above b O) : Above a O :=
  fun g u hg => ⟨(hO g u hg).1, lt_of_le_of_lt h (hO g u hg).2⟩
theorem above_recv (c : Dev nD) : ∀ n, Above 1 (owRecv c n)
  | 0 => above_mono (by decide) (above_fin c 7)
  | n + 1 => above_add (above_recv c n) _ _ ⟨rfl, by rw [lv_recv]; decide⟩
theorem above_bar (c : Dev nD) : ∀ n, Above 0 (owBar c n)
  | 0 => above_mono (by decide) (above_recv c 7)
  | n + 1 => above_add (above_bar c n) _ _ ⟨rfl, by rw [lv_bar]; decide⟩

omit [FloatOps F] in
/-- A cell may be waited on while what is owed lies above it. -/
theorem mayWait_of {c : Dev nD} {sm : SemLoc sig} {O : CellTallies nD τ sig Unit} (b : ℕ) (hb : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hb)
    (fun g u hg => (hO g u hg).2)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names `K` the launch allocated them at, and that every cell has reached round 0. -/
def records (K : Dev nD × Fin 18 → ℕ) : sProp 𝕄 :=
  iprop((bigSep Finset.univ fun ci : Dev nD × Fin 18 => cellInv ER (Rd m ρ) (K ci) (kcell ci))
    ∗ bigSep Finset.univ fun ci : Dev nD × Fin 18 => reached ER (kcell ci) 0)

instance records_persistent (K : Dev nD × Fin 18 → ℕ) : BI.Persistent (records m ρ K) := by unfold records; infer_instance

/-- The tokens device `c` pays with at step `k`: the barrier, receive and exit duties of the device `k` places on, and its own send duty. -/
def toks (c : Dev nD) (k : Fin 7) : sProp 𝕄 :=
  iprop(dutyTok ER (barCell (peer c (k.val + 1))) 0 c ∗ dutyTok ER (recvCell (peer c (k.val + 1)) c) 0 0
    ∗ dutyTok ER (finCell (peer c (k.val + 1))) 0 c ∗ dutyTok ER (sendCell c k.succ) 0 0)

/-- The exchange's ghost state device `c` starts from: the records, its positions at its own cells, the tokens it pays with. -/
def ghost (K : Dev nD × Fin 18 → ℕ) (c : Dev nD) : sProp 𝕄 :=
  iprop(records m ρ K ∗ (bigSep Finset.univ fun i : Fin 18 => atPos ER (kcell (c, i)) 0 ∅ 0) ∗ bigSep Finset.univ fun k : Fin 7 => toks c k)

/-- The credit device `c`'s waits consume: its barrier's seven units, each receive cell's block, its exit cell's seven units. -/
def creds (c : Dev nD) : sProp 𝕄 :=
  iprop(cred (tallyAt (barCell c) () 7) ∗ (bigSep Finset.univ fun k : Fin 7 => cred (tallyAt (recvCell c (peer c (k.val + 1))) () N)) ∗ cred (tallyAt (finCell c) () 7))

/-- What device `c`'s body starts from: that at some names, its credit and the level facts. -/
def start (c : Dev nD) : sProp 𝕄 := iprop((∃ K, ghost m ρ K c) ∗ creds c ∗ levAts L lv)

def accPts (c : Dev nD) (f : Buf (Elt F) ((c : Thread nD τ).loc cc0_scratch0)) : sProp 𝕄 := ((c : Thread nD τ).loc cc0_scratch0) ↦{fullShare} f
def landPts (c : Dev nD) (f : Buf (Elt F) ((c : Thread nD τ).loc cc0_scratch1)) : sProp 𝕄 := ((c : Thread nD τ).loc cc0_scratch1) ↦{fullShare} f

def Φ₀ (c : Dev nD) : sProp 𝕄 := iprop(start m ρ c ∗ (∃ f, accPts (F := F) c f) ∗ ∃ f, landPts (F := F) c f)
/-- After the point: the two scratch buffers, and every cell of the device closed, its counter at zero. -/
def Φ₁ (c : Dev nD) : sProp 𝕄 :=
  iprop(accPts c (accAt m ρ c) ∗ landPts c (recvAll m ρ c) ∗ bigSep Finset.univ fun i : Fin 18 => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => idxstg m ρ c
    | ⟨3, _⟩ => ewstg m ρ c
    | ⟨4, _⟩ => swstg m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.MoeProof

end
-- ==== Proof.Views.lean ====
module

public import proofs.«01_k».proof.Proof.Protocol
public import Idealize.ShloMosaic.Lib.ViewIndex
public import Idealize.ShloMosaic.Lib.ValueIdx
public import Idealize.ShloMosaic.Lib.Ring
public import Idealize.ShloMosaic.Lib.Pointwise.Reshape

/-!
# The row blocks and slots as the kernel's memrefs name them

The kernel names row block `e` of the contribution and slot `e` of the landing buffer by computed offsets; here each such
memref is the set of elements the protocol speaks of, and a copied block lands as the protocol says.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The memrefs of a row block, of a slot (whole rank), and of a slot with its unit axis dropped. -/
abbrev rowM (off : Fin 2 → ℕ) (inb : ∀ a, off a + S32x256.size a ≤ S256x256.size a) : Memref sig .tc .vmem S32x256 .f32 :=
  accM.slice (Rect.unit (s := S256x256) off S32x256.size inb) (fun _ => rfl)
abbrev slotM3 (off : Fin 3 → ℕ) (inb : ∀ a, off a + S1x32x256.size a ≤ S8x32x256.size a) : Memref sig .tc .vmem S1x32x256 .f32 :=
  recvM.slice (Rect.unit (s := S8x32x256) off S1x32x256.size inb) (fun _ => rfl)
abbrev slotM (off : Fin 3 → ℕ) (inb : ∀ a, off a + S1x32x256.size a ≤ S8x32x256.size a) : Memref sig .tc .vmem S32x256 .f32 :=
  (slotM3 off inb).squeeze S32x256 squeezes_S1x32x256_S32x256

theorem off1_at (c : Dev nD) : k0_off1 c = ![c.val] := k0_off1_eq c
theorem off3_at (c : Dev nD) (j : Fin 7) : k0_off3 c (BitVec.ofNat 32 (1 + j.val)) = ![32 * (peer c (j.val + 1)).val, 0] := by
  revert c j; decide +kernel
theorem off7_at (c : Dev nD) (j : Fin 7) : k0_off7 c (BitVec.ofNat 32 (1 + j.val)) = ![(peer c (j.val + 1)).val] := by
  revert c j; decide +kernel
theorem off8_at (c : Dev nD) (j : Fin 7) : k0_off8 c (BitVec.ofNat 32 (1 + j.val)) = ![(peer c (j.val + 1)).val, 0, 0] := by
  revert c j; decide +kernel

theorem row_set (e : Fin 8) {off : Fin 2 → ℕ} (h : off = ![32 * e.val, 0]) (inb) : (rowM off inb).view.set = rowSet e := by
  subst h
  refine (View.set_slice_whole _ _).trans (Finset.ext fun i => ?_)
  rw [Rect.mem_set_unit, rowSet, Finset.mem_filter]
  have h1 : (i 1).val < 256 := (i 1).isLt
  constructor
  · intro hi
    have h0 := hi 0
    refine ⟨Finset.mem_univ _, ?_⟩
    change 32 * e.val ≤ (i 0).val ∧ (i 0).val < 32 * e.val + 32 at h0
    omega
  · rintro ⟨-, hi⟩ a
    match a with
    | ⟨0, _⟩ => show 32 * e.val ≤ (i 0).val ∧ (i 0).val < 32 * e.val + 32; omega
    | ⟨1, _⟩ => show 0 ≤ (i 1).val ∧ (i 1).val < 0 + 256; omega

theorem slot3_set (e : Fin 8) {off : Fin 3 → ℕ} (h : off = ![e.val, 0, 0]) (inb) : (slotM3 off inb).view.set = slotSet e := by
  subst h
  refine (View.set_slice_whole _ _).trans (Finset.ext fun i => ?_)
  rw [Rect.mem_set_unit, slotSet, Finset.mem_filter]
  have h1 : (i 1).val < 32 := (i 1).isLt
  have h2 : (i 2).val < 256 := (i 2).isLt
  constructor
  · intro hi
    have h0 := hi 0
    refine ⟨Finset.mem_univ _, ?_⟩
    change e.val ≤ (i 0).val ∧ (i 0).val < e.val + 1 at h0
    omega
  · rintro ⟨-, hi⟩ a
    match a with
    | ⟨0, _⟩ => show e.val ≤ (i 0).val ∧ (i 0).val < e.val + 1; omega
    | ⟨1, _⟩ => show 0 ≤ (i 1).val ∧ (i 1).val < 0 + 32; omega
    | ⟨2, _⟩ => show 0 ≤ (i 2).val ∧ (i 2).val < 0 + 256; omega

theorem slot_set (e : Fin 8) {off : Fin 3 → ℕ} (h : off = ![e.val, 0, 0]) (inb) : (slotM off inb).view.set = slotSet e :=
  (View.set_reshape _ _).trans (slot3_set e h inb)

omit [FloatOps F] in
/-- Contents a view reads as `w` are what writing `w` through the view leaves on the view's elements. -/
theorem write_agrees {sp : Space} {s : Shape} {e : EltTy} (v : View sig .tc sp s e) (f g : v.ty.Contents (Elt F)) (w : s.Idx → Elt F e)
    (h : v.read (Elt F) g = w) : ∀ i ∈ v.set, v.write (Elt F) f w Finset.univ i = g i := fun i hi => by
  obtain ⟨x, -, rfl⟩ := Finset.mem_map.mp hi
  exact View.eq_of_read_eq (by rw [View.read_write_univ, h])

/-- Slot `s` of device `c`'s full landing buffer is row block `c` of device `s`'s contribution. -/
theorem read_slot (c : Dev nD) (s : Fin 8) {offD : Fin 3 → ℕ} (hD : offD = ![s.val, 0, 0]) (inbD) {offS : Fin 2 → ℕ} (hS : offS = ![32 * c.val, 0]) (inbS) :
    (slotM offD inbD).view.read (Elt F) (recvAll m ρ c) = (rowM offS inbS).view.read (Elt F) (accAt m ρ s) := by
  subst hD hS
  funext x
  have hx : Shape.reshapeEquiv squeezes_S1x32x256_S32x256.numel_eq x = (ValueIdx.ix3 0 (x 0) (x 1) : S1x32x256.Idx) := by
    refine Shape.reshapeEquiv_eq_of_vals _ _ _ _ _ (rowMajor_val3 _ 8192 256 rfl rfl) (rowMajor_val2 _ 256 rfl) ?_
    show (0 : Fin 1).val * 8192 + (x 0).val * 256 + (x 1).val = (x 0).val * 256 + (x 1).val
    simp
  show recvAll m ρ c ((Rect.unit (s := S8x32x256) ![s.val, 0, 0] S1x32x256.size inbD).emb (Shape.reshapeEquiv squeezes_S1x32x256_S32x256.numel_eq x))
    = accAt m ρ s ((Rect.unit (s := S256x256) ![32 * c.val, 0] S32x256.size inbS).emb x)
  rw [hx]
  have h3 : (Rect.unit (s := S8x32x256) ![s.val, 0, 0] S1x32x256.size inbD).emb (ValueIdx.ix3 0 (x 0) (x 1) : S1x32x256.Idx)
      = (ValueIdx.ix3 s (x 0) (x 1) : S8x32x256.Idx) := by
    refine Shape.idx3_ext ?_ ?_ ?_
    · show s.val + 1 * 0 = s.val; omega
    · show 0 + 1 * (x 0).val = (x 0).val; omega
    · show 0 + 1 * (x 1).val = (x 1).val; omega
  rw [h3]
  show accAt m ρ s (rowIx c (x 0) (x 1)) = _
  congr 1
  funext a
  match a with
  | ⟨0, _⟩ => exact Fin.ext (by show 32 * c.val + (x 0).val = 32 * c.val + 1 * (x 0).val; omega)
  | ⟨1, _⟩ => exact Fin.ext (by show (x 1).val = 0 + 1 * (x 1).val; omega)

/-- A slot's contents before its unit axis is dropped: the row block, reshaped as the kernel stores its own. -/
theorem read_slot3 (c : Dev nD) (s : Fin 8) {offD : Fin 3 → ℕ} (hD : offD = ![s.val, 0, 0]) (inbD) {offS : Fin 2 → ℕ} (hS : offS = ![32 * c.val, 0]) (inbS) :
    (slotM3 offD inbD).view.read (Elt F) (recvAll m ρ c) = k0_pay7 ((rowM offS inbS).view.read (Elt F) (accAt m ρ s)) := by
  unfold k0_pay7
  dsimp only
  rw [shapeCast_id]
  funext y
  rw [Pointwise.shapeCast_apply, ← read_slot m ρ c s hD inbD hS inbS]
  show (slotM3 offD inbD).view.read (Elt F) (recvAll m ρ c) y = (slotM3 offD inbD).view.read (Elt F) (recvAll m ρ c) (Shape.reshapeEquiv _ (Shape.reshapeEquiv _ y))
  rw [Shape.reshapeEquiv_reshapeEquiv, Shape.reshapeEquiv_self]

/-! ## Whole buffers as their blocks -/

theorem slot_disj (e e' : Fin 8) (h : e ≠ e') : Disjoint (slotSet e) (slotSet e') :=
  Finset.disjoint_left.mpr fun i h1 h2 => h (Fin.ext ((Finset.mem_filter.mp h1).2.symm.trans (Finset.mem_filter.mp h2).2))
theorem row_disj (e e' : Fin 8) (h : e ≠ e') : Disjoint (rowSet e) (rowSet e') :=
  Finset.disjoint_left.mpr fun i h1 h2 => h (Fin.ext ((Finset.mem_filter.mp h1).2.symm.trans (Finset.mem_filter.mp h2).2))
theorem slot_cover : Finset.univ.biUnion slotSet = Finset.univ := Finset.eq_univ_iff_forall.mpr fun i =>
  Finset.mem_biUnion.mpr ⟨(i 0 : Fin 8), Finset.mem_univ _, Finset.mem_filter.mpr ⟨Finset.mem_univ _, rfl⟩⟩
theorem row_cover : Finset.univ.biUnion rowSet = Finset.univ := Finset.eq_univ_iff_forall.mpr fun i =>
  Finset.mem_biUnion.mpr ⟨⟨(i 0).val / 32, by have : (i 0).val < 256 := (i 0).isLt; omega⟩, Finset.mem_univ _, Finset.mem_filter.mpr ⟨Finset.mem_univ _, rfl⟩⟩

omit [FloatOps F] in
theorem landPts_slots (c : Dev nD) (f : Buf (Elt F) ((c : Thread nD τ).loc cc0_scratch1)) :
    landPts c f = (bigSep Finset.univ fun e : Fin 8 => slotPts c e f : sProp 𝕄) := by
  unfold landPts slotPts
  rw [← pointsTo_biUnion (ℓ := (c : Thread nD τ).loc cc0_scratch1) Finset.univ slotSet (fun b _ b' _ h => slot_disj b b' h), slot_cover]
omit [FloatOps F] in
theorem accPts_rows (c : Dev nD) (f : Buf (Elt F) ((c : Thread nD τ).loc cc0_scratch0)) :
    accPts c f = (bigSep Finset.univ fun e : Fin 8 => rowPts c e f : sProp 𝕄) := by
  unfold accPts rowPts
  rw [← pointsTo_biUnion (ℓ := (c : Thread nD τ).loc cc0_scratch0) Finset.univ rowSet (fun b _ b' _ h => row_disj b b' h), row_cover]

/-- The devices but `c` are those one to seven places on. -/
theorem others_eq (c : Fin 8) : (Finset.univ.erase c : Finset (Fin 8)) = Finset.univ.map ⟨fun j : Fin 7 => (peer c (j.val + 1) : Fin 8), by revert c; decide⟩ := by
  revert c; decide
omit [FloatOps F] in
theorem bigSep_others (c : Dev nD) (Φ : Fin 8 → sProp 𝕄) :
    bigSep (Finset.univ.erase c) Φ = bigSep Finset.univ fun j : Fin 7 => Φ (peer c (j.val + 1)) := by
  rw [others_eq c, bigSep_map]; rfl
omit [FloatOps F] in
theorem bigSep_self_others (c : Dev nD) (Φ : Fin 8 → sProp 𝕄) :
    bigSep Finset.univ Φ = iprop(Φ c ∗ bigSep Finset.univ fun j : Fin 7 => Φ (peer c (j.val + 1))) := by
  rw [← bigSep_others, bigSep_erase (Finset.mem_univ c)]; rfl

/-! ## The semaphores as the kernel names them -/

theorem sem_at (base : ℕ) (hb : base + S8.numel ≤ 22) (s : Fin 8) {off : Fin 1 → ℕ} (h : off = ![s.val]) (inb) :
    ((((SemArray.consecutive base S8 hb : SemArray (Fin 22) S8).slice (Rect.unit (s := S8) off S1.size inb)).squeeze S_ squeezes_S1_S_).sem).val = base + s.val := by
  subst h
  show base + (S8.rowMajor ((Rect.unit (s := S8) ![s.val] S1.size inb).emb (Shape.reshapeEquiv squeezes_S1_S_.numel_eq fun i => i.elim0)) : ℕ) = base + s.val
  rw [rowMajor_val1]
  show base + (s.val + 1 * (Shape.reshapeEquiv squeezes_S1_S_.numel_eq (fun i => i.elim0) 0).val) = base + s.val
  have : (Shape.reshapeEquiv squeezes_S1_S_.numel_eq (fun i => i.elim0) (0 : Fin 1)).val < 1 := Fin.isLt _
  omega
theorem recv_sem (s : Fin 8) {off : Fin 1 → ℕ} (h : off = ![s.val]) (inb) :
    (((cc0_scratch3 : DmaSems sig S8).slice (Rect.unit (s := S8) off S1.size inb)).squeeze S_ squeezes_S1_S_).sem = recvS s :=
  Fin.ext (sem_at 14 _ s h inb)
theorem send_sem (k : Fin 8) {off : Fin 1 → ℕ} (h : off = ![k.val]) (inb) :
    (((cc0_scratch2 : DmaSems sig S8).slice (Rect.unit (s := S8) off S1.size inb)).squeeze S_ squeezes_S1_S_).sem = sendS k :=
  Fin.ext (sem_at 6 _ k h inb)

theorem slot_credit (off inb) : (slotM off inb).view.dmaCredit = N := rfl
theorem row_credit (off inb) : (rowM off inb).view.dmaCredit = N := by unfold N; rfl

end Cert.MoeProof

end
-- ==== Proof.Steps.lean ====
module

public import proofs.«01_k».proof.Proof.Views

/-!
# One lemma per kind of step

The kernel's exchange is five loops of seven steps, unrolled: barrier signals, copies, receive waits, send waits, exit
signals. Each loop has a state after `j` steps, and one lemma that takes the state from `j` to `j + 1`.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The records read at a cell -/

section Records
variable (K : Dev nD × Fin 18 → ℕ)

theorem kcell_bar (c : Dev nD) : kcell (c, 0) = barCell c := rfl
theorem kcell_fin (c : Dev nD) : kcell (c, 1) = finCell c := rfl
theorem kcell_send (c : Dev nD) (k : Fin 8) : kcell (c, sendI k) = sendCell c k := by
  show ((c : Thread nD τ), csem (sendI k)) = _; rw [csem_send]
theorem kcell_recv (c : Dev nD) (s : Fin 8) : kcell (c, recvI s) = recvCell c s := by
  show ((c : Thread nD τ), csem (recvI s)) = _; rw [csem_recv]

theorem inv_at (ci : Dev nD × Fin 18) {g : GSem nD τ sig} (hg : kcell ci = g) : records m ρ K ⊢ cellInv ER (Rd m ρ) (K ci) g := by
  subst hg
  unfold records
  exact (BI.sep_and.trans and_elimL).trans (bigSep_elim (Finset.mem_univ ci))
theorem reached_at (ci : Dev nD × Fin 18) {g : GSem nD τ sig} (hg : kcell ci = g) : records m ρ K ⊢ reached ER g 0 := by
  subst hg
  unfold records
  exact (BI.sep_and.trans and_elimR).trans (bigSep_elim (Finset.mem_univ ci))

end Records

/-! ## Loops -/

/-- A loop's resources after `j` of its seven steps: what a step leaves (`Q`) for the first `j`, what it needs (`P`) for the rest. -/
def mix (P Q : Fin 7 → sProp 𝕄) (j : ℕ) : sProp 𝕄 := bigSep Finset.univ fun k : Fin 7 => if k.val < j then Q k else P k

omit [FloatOps F] in
theorem mix_zero (P Q : Fin 7 → sProp 𝕄) : mix P Q 0 = bigSep Finset.univ P :=
  bigSep_congr fun k _ => if_neg (Nat.not_lt_zero _)
omit [FloatOps F] in
theorem mix_all (P Q : Fin 7 → sProp 𝕄) : mix P Q 7 = bigSep Finset.univ Q :=
  bigSep_congr fun k _ => if_pos k.isLt
omit [FloatOps F] in
theorem frame_back (A R : sProp 𝕄) : R ⊢ iprop(A -∗ (A ∗ R)) := by
  iintro HR HA
  isplitl [HA]; · iexact HA
  iexact HR
omit [FloatOps F] in
theorem mix_step (P Q : Fin 7 → sProp 𝕄) (j : ℕ) (hj : j < 7) : mix P Q j ⊢ iprop(P ⟨j, hj⟩ ∗ (Q ⟨j, hj⟩ -∗ mix P Q (j + 1))) := by
  unfold mix
  rw [bigSep_erase (Finset.mem_univ (⟨j, hj⟩ : Fin 7)) (Φ := fun k : Fin 7 => if k.val < j then Q k else P k),
    bigSep_erase (Finset.mem_univ (⟨j, hj⟩ : Fin 7)) (Φ := fun k : Fin 7 => if k.val < j + 1 then Q k else P k)]
  have h : bigSep (Finset.univ.erase (⟨j, hj⟩ : Fin 7)) (fun k : Fin 7 => if k.val < j + 1 then Q k else P k)
      = bigSep (Finset.univ.erase (⟨j, hj⟩ : Fin 7)) (fun k : Fin 7 => if k.val < j then Q k else P k) :=
    bigSep_congr fun k hk => by
      have hne : k.val ≠ j := fun h => (Finset.mem_erase.mp hk).1 (Fin.ext h)
      by_cases hlt : k.val < j
      · rw [if_pos hlt, if_pos (by omega)]
      · rw [if_neg hlt, if_neg (by omega)]
  rw [h]
  dsimp only
  rw [if_neg (Nat.lt_irrefl j), if_pos (Nat.lt_succ_self j)]
  exact sep_mono_right (frame_back _ _)

/-- What device `c` owes, whatever it has waited on. -/
def owe (c : Dev nD) (O : CellTallies nD τ sig Unit) : sProp 𝕄 := iprop(∃ W, owes (c : Thread nD τ) O W)

theorem owBar_step (c : Dev nD) (j : ℕ) (hj : j < 7) : owBar c (7 - j) = owBar c (7 - (j + 1)) + tallyAt (barCell (peer c (j + 1))) () 1 := by
  obtain ⟨n, hn⟩ : ∃ n, 7 - j = n + 1 := ⟨6 - j, by omega⟩
  rw [hn, show 7 - (j + 1) = n by omega, owBar, show 7 - n = j + 1 by omega]
theorem owRecv_step (c : Dev nD) (j : ℕ) (hj : j < 7) : owRecv c (7 - j) = owRecv c (7 - (j + 1)) + tallyAt (recvCell (peer c (j + 1)) c) () N := by
  obtain ⟨n, hn⟩ : ∃ n, 7 - j = n + 1 := ⟨6 - j, by omega⟩
  rw [hn, show 7 - (j + 1) = n by omega, owRecv, show 7 - n = j + 1 by omega]
theorem owFin_step (c : Dev nD) (j : ℕ) (hj : j < 7) : owFin c (7 - j) = owFin c (7 - (j + 1)) + tallyAt (finCell (peer c (j + 1))) () 1 := by
  obtain ⟨n, hn⟩ : ∃ n, 7 - j = n + 1 := ⟨6 - j, by omega⟩
  rw [hn, show 7 - (j + 1) = n by omega, owFin, show 7 - n = j + 1 by omega]

theorem self_ne_peer (c : Dev nD) (j : ℕ) (hj : j < 7) : c ≠ peer c (j + 1) := (peer_ne c (j + 1) (by omega) (by omega)).symm
theorem mem_others (c : Dev nD) (j : ℕ) (hj : j < 7) : (c : Fin 8) ∈ (Finset.univ.erase (peer c (j + 1)) : Finset (Fin 8)) :=
  Finset.mem_erase.mpr ⟨self_ne_peer c j hj, Finset.mem_univ _⟩

section Steps
variable (K : Dev nD × Fin 18 → ℕ) (c : Dev nD)

/-- The barrier signals: the token, and the slot handed over. -/
def barItem (c : Dev nD) (k : Fin 7) : sProp 𝕄 :=
  iprop(dutyTok ER (barCell (peer c (k.val + 1))) 0 c ∗ ∃ f, slotPts (F := F) c (peer c (k.val + 1)) f)
def barSt (c : Dev nD) (j : ℕ) : sProp 𝕄 := iprop(owe c (owBar c (7 - j)) ∗ mix (barItem c) (fun _ => iprop(emp)) j)

theorem bar_step {α : Type} {Ψ : α → sProp 𝕄} {k : PUnit → Prog (TpuEff nD τ sig (Elt F) Λ₀ .tc) α} (j : ℕ) (hj : j < 7) {n : Dev nD} (hn : n = peer c (j + 1)) {k' : ℤ} (hk' : ((1 : ℕ) : ℤ) = k') :
    iprop(records m ρ K ∗ barSt (F := F) c j)
      ⊢ iprop((barSt (F := F) c (j + 1) -∗ wp frame (wpE (defs₀ (F := F)) 𝒱₀ (c : Thread nD τ) none) Set.univ (k ⟨⟩) Ψ)
        -∗ wp frame (wpE (defs₀ (F := F)) 𝒱₀ (c : Thread nD τ) none) Set.univ (.op (.semSignal (n : Thread nD τ) barS k') k) Ψ) := by
  subst hn hk'
  unfold barSt owe
  iintro ⟨#HR, ⟨%W, HO⟩, Hm⟩ Hk
  ihave Hs := (mix_step (barItem c) (fun _ => iprop(emp)) j hj) $$ Hm
  icases Hs with ⟨Hi, Hback⟩
  unfold barItem
  icases Hi with ⟨Ht, Hslot⟩
  iapply (Rounds.wp_signal 𝒱₀ ER (Rd m ρ) (c : Thread nD τ) none (dst := (peer c (j + 1) : Thread nD τ)) (κ := K (peer c (j + 1), 0)) (r := 0) (d := c)
      (by rw [duties_bar]; exact mem_others c j hj) rfl () (O₀ := owBar c (7 - j)) (owBar c (7 - (j + 1))) (owBar_step c j hj) (W := W)) $$ [HO Ht Hslot]
  · isplitr; · iapply (inv_at m ρ K (peer c (j + 1), 0) (kcell_bar _)); iexact HR
    isplitl [HO]; · iexact HO
    isplitl [Ht]; · iexact Ht
    isplitl [Hslot]; · rw [payload_bar]; unfold barPay; iexact Hslot
    iapply (reached_at m ρ K (peer c (j + 1), 0) (kcell_bar _)); iexact HR
  iintro HO
  iapply Hk
  isplitl [HO]; · iexists W; iexact HO
  iapply Hback; iempintro

/-- The exit signals: the token. -/
def finSt (c : Dev nD) (j : ℕ) : sProp 𝕄 :=
  iprop(owe c (owFin c (7 - j)) ∗ mix (fun k : Fin 7 => dutyTok ER (finCell (peer c (k.val + 1))) 0 c) (fun _ => iprop(emp)) j)

theorem fin_step {α : Type} {Ψ : α → sProp 𝕄} {k : PUnit → Prog (TpuEff nD τ sig (Elt F) Λ₀ .tc) α} (j : ℕ) (hj : j < 7) {n : Dev nD} (hn : n = peer c (j + 1)) {k' : ℤ} (hk' : ((1 : ℕ) : ℤ) = k') :
    iprop(records m ρ K ∗ finSt (F := F) c j)
      ⊢ iprop((finSt (F := F) c (j + 1) -∗ wp frame (wpE (defs₀ (F := F)) 𝒱₀ (c : Thread nD τ) none) Set.univ (k ⟨⟩) Ψ)
        -∗ wp frame (wpE (defs₀ (F := F)) 𝒱₀ (c : Thread nD τ) none) Set.univ (.op (.semSignal (n : Thread nD τ) finS k') k) Ψ) := by
  subst hn hk'
  unfold finSt owe
  iintro ⟨#HR, ⟨%W, HO⟩, Hm⟩ Hk
  ihave Hs := (mix_step (fun k : Fin 7 => dutyTok ER (finCell (peer c (k.val + 1))) 0 c) (fun _ => iprop(emp)) j hj) $$ Hm
  icases Hs with ⟨Ht, Hback⟩
  iapply (Rounds.wp_signal 𝒱₀ ER (Rd m ρ) (c : Thread nD τ) none (dst := (peer c (j + 1) : Thread nD τ)) (κ := K (peer c (j + 1), 1)) (r := 0) (d := c)
      (by rw [duties_fin]; exact mem_others c j hj) rfl () (O₀ := owFin c (7 - j)) (owFin c (7 - (j + 1))) (owFin_step c j hj) (W := W)) $$ [HO Ht]
  · isplitr; · iapply (inv_at m ρ K (peer c (j + 1), 1) (kcell_fin _)); iexact HR
    isplitl [HO]; · iexact HO
    isplitl [Ht]; · iexact Ht
    isplitr; · rw [payload_fin]; iempintro
    iapply (reached_at m ρ K (peer c (j + 1), 1) (kcell_fin _)); iexact HR
  iintro HO
  iapply Hk
  isplitl [HO]; · iexists W; iexact HO
  iapply Hback; iempintro

/-- The two rendezvous' waits, for seven units. -/
theorem bar_wait {α : Type} {Ψ : α → sProp 𝕄} {k : PUnit → Prog (TpuEff nD τ sig (Elt F) Λ₀ .tc) α} {k' : ℤ} (hk' : ((7 : ℕ) : ℤ) = k') :
    iprop(records m ρ K ∗ levAts L lv ∗ cred (tallyAt (barCell c) () 7) ∗ atPos ER (barCell c) 0 ∅ 0 ∗ owe (F := F) c (owRecv c 7))
      ⊢ iprop(((owe (F := F) c (owRecv c 7) ∗ atPos ER (barCell c) 1 ∅ 0 ∗ bigSep Finset.univ fun j : Fin 7 => barPay (F := F) c (peer c (j.val + 1)))
          -∗ wp frame (wpE (defs₀ (F := F)) 𝒱₀ (c : Thread nD τ) none) Set.univ (k ⟨⟩) Ψ)
        -∗ wp frame (wpE (defs₀ (F := F)) 𝒱₀ (c : Thread nD τ) none) Set.univ (.op (.semWait barS k') k) Ψ) := by
  subst hk'
  unfold owe
  iintro ⟨#HR, #Hlev, Hc, Hat, ⟨%W, HO⟩⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owRecv c 7) (W := W) (R := 0) (m := 0) (T := ∅)
      (by rw [expect_bar])) $$ [Hc HO Hat]
  · isplitr; · iapply (inv_at m ρ K (c, 0) (kcell_bar _)); iexact HR
    isplitl [Hc]; · iexact Hc
    isplitl [HO]; · iexact HO
    isplitr; · iapply (mayWait_of 1 (le_of_eq (lv_bar c)) (above_recv c 7)); iexact Hlev
    iexact Hat
  iintro ⟨HO, Hat, -, Hp⟩
  iapply Hk
  isplitl [HO]; · iexists _; iexact HO
  isplitl [Hat]; · iexact Hat
  iapply (Entails.of_eq ((rest_bar m ρ c).trans (bigSep_others c (fun d => barPay (F := F) c d))))
  iexact Hp

theorem fin_wait {α : Type} {Ψ : α → sProp 𝕄} {k : PUnit → Prog (TpuEff nD τ sig (Elt F) Λ₀ .tc) α} {k' : ℤ} (hk' : ((7 : ℕ) : ℤ) = k') :
    iprop(records m ρ K ∗ cred (tallyAt (finCell c) () 7) ∗ atPos ER (finCell c) 0 ∅ 0 ∗ owe (F := F) c 0)
      ⊢ iprop(((owe (F := F) c 0 ∗ atPos ER (finCell c) 1 ∅ 0)
          -∗ wp frame (wpE (defs₀ (F := F)) 𝒱₀ (c : Thread nD τ) none) Set.univ (k ⟨⟩) Ψ)
        -∗ wp frame (wpE (defs₀ (F := F)) 𝒱₀ (c : Thread nD τ) none) Set.univ (.op (.semWait finS k') k) Ψ) := by
  subst hk'
  unfold owe
  iintro ⟨#HR, Hc, Hat, ⟨%W, HO⟩⟩ Hk
  iapply (Rounds.wp_wait_rest_token 𝒱₀ ER (Rd m ρ) (c : Thread nD τ) none (κ := K (c, 1))
      (wpE_semWait_eq 𝒱₀ (c : Thread nD τ) none Set.univ) (Set.mem_univ _) () (O := 0) (W := W) (R := 0) (m := 0) (T := ∅)
      (by rw [expect_fin])) $$ [Hc HO Hat]
  · isplitr; · iapply (inv_at m ρ K (c, 1) (kcell_fin _)); iexact HR
    isplitl [Hc]; · iexact Hc
    isplitl [HO]; · iexact HO
    isplitr; · rw [MayWait_zero]; iempintro
    iexact Hat
  iintro ⟨HO, Hat, -, -⟩
  iapply Hk
  isplitl [HO]; · iexists _; iexact HO
  iexact Hat

/-- The copies: the row block sent, the slot it lands in, and the two tokens; each leaves its send credit. -/
def copyItem (c : Dev nD) (k : Fin 7) : sProp 𝕄 :=
  iprop(rowPts c (peer c (k.val + 1)) (accAt m ρ c) ∗ barPay (F := F) c (peer c (k.val + 1))
    ∗ dutyTok ER (sendCell c k.succ) 0 0 ∗ dutyTok ER (recvCell (peer c (k.val + 1)) c) 0 0)
def copySt (c : Dev nD) (j : ℕ) : sProp 𝕄 :=
  iprop(owe c (owRecv c (7 - j)) ∗ mix (copyItem m ρ c) (fun k => cred (tallyAt (sendCell c k.succ) () N)) j)

theorem copy_step {α : Type} {Ψ : α → sProp 𝕄} {k : PUnit → Prog (TpuEff nD τ sig (Elt F) Λ₀ .tc) α} (j : ℕ) (hj : j < 7) {n : Dev nD} (hn : n = peer c (j + 1))
    {offS : Fin 2 → ℕ} (hS : offS = ![32 * (peer c (j + 1)).val, 0]) {inbS} {offD : Fin 3 → ℕ} (hD : offD = ![c.val, 0, 0]) {inbD}
    {qs qr : DmaSem sig} (hqs : qs = sendS (⟨j, hj⟩ : Fin 7).succ) (hqr : qr = recvS c)
    {hsc : (slotM offD inbD : Memref sig (Dev.tc n : Thread nD τ).2.kind .vmem S32x256 .f32).view.ref.isScScratch = false}
    {hsrc : (rowM offS inbS).view.WordExact} {hdst : (slotM offD inbD).view.WordExact}
    {hsem : DmaTarget.Typed .vmem (.dma qr) (.remote (Dev.tc n : Thread nD τ) (slotM offD inbD : Memref sig (Dev.tc n : Thread nD τ).2.kind .vmem S32x256 .f32) (.dma qs) hsc)} :
    iprop(records m ρ K ∗ copySt m ρ c j)
      ⊢ iprop((copySt m ρ c (j + 1) -∗ wp frame (wpE (defs₀ (F := F)) 𝒱₀ (c : Thread nD τ) none) Set.univ (k ⟨⟩) Ψ)
        -∗ wp frame (wpE (defs₀ (F := F)) 𝒱₀ (c : Thread nD τ) none) Set.univ
          (.op (.enqueueDma (rowM offS inbS) (.remote (Dev.tc n : Thread nD τ) (slotM offD inbD) (.dma qs) hsc) (.dma qr) hsrc hdst hsem) k) Ψ) := by
  subst hn hqs hqr
  unfold copySt owe
  iintro ⟨#HR, ⟨%W, HO⟩, Hm⟩ Hk
  ihave Hs := (mix_step (copyItem m ρ c) (fun k => cred (tallyAt (sendCell c k.succ) () N)) j hj) $$ Hm
  unfold copyItem barPay rowPts slotPts
  icases Hs with ⟨⟨Hrow, ⟨%fd, Hslot⟩, Hts, Htr⟩, Hback⟩
  rw [← row_set (peer c (j + 1)) hS inbS, ← slot_set c hD inbD]
  iapply (Rounds.wp_send_pointsTo 𝒱₀ ER (Rd m ρ) (c : Thread nD τ) none (c' := (peer c (j + 1) : Thread nD τ)) (κ₁ := K (c, sendI (⟨j, hj⟩ : Fin 7).succ)) (κ₂ := K (peer c (j + 1), recvI c))
      (sS := .dma (sendS (⟨j, hj⟩ : Fin 7).succ)) (sem := .dma (recvS c)) (src := rowM offS inbS) (dst := slotM offD inbD) (q := fullShare) (fs := accAt m ρ c) (fd := fd) (W := W)
      (r₁ := 0) (r₂ := 0) (d₁ := 0) (d₂ := 0)
      (by rw [duties_send m ρ c _ (Fin.succ_ne_zero _)]; exact Finset.mem_singleton_self _)
      (by rw [duties_recv m ρ _ _ (self_ne_peer c j hj)]; exact Finset.mem_singleton_self _)
      () () N (slot_credit offD inbD) rfl rfl (owRecv c (7 - (j + 1))) (owRecv_step c j hj)
      (by rw [payload_send]; unfold sendPay rowPts; rw [row_set (peer c (j + 1)) hS inbS]; exact BI.Entails.refl _)
      (by
        rw [payload_recv]; unfold recvPay slotPts; rw [← slot_set c hD inbD]
        refine Entails.of_eq (pointsTo_congr (write_agrees _ _ _ _ (read_slot m ρ (peer c (j + 1)) c hD inbD hS inbS))))) $$ [HO Hrow Hslot Hts Htr]
  · isplitr; · iapply (inv_at m ρ K (c, sendI (⟨j, hj⟩ : Fin 7).succ) (kcell_send _ _)); iexact HR
    isplitr; · iapply (inv_at m ρ K (peer c (j + 1), recvI c) (kcell_recv _ _)); iexact HR
    isplitl [Hrow]; · iexact Hrow
    isplitl [Hslot]; · iexact Hslot
    isplitl [HO]; · iexact HO
    isplitl [Hts]; · iexact Hts
    isplitr; · iapply (reached_at m ρ K (c, sendI (⟨j, hj⟩ : Fin 7).succ) (kcell_send _ _)); iexact HR
    isplitl [Htr]; · iexact Htr
    iapply (reached_at m ρ K (peer c (j + 1), recvI c) (kcell_recv _ _)); iexact HR
  iintro ⟨Hc, HO⟩
  iapply Hk
  isplitl [HO]; · iexists W; iexact HO
  iapply Hback; iexact Hc

/-- The receive waits: the credit and the position; each leaves the slot filled and the position moved on. -/
def rwItem (c : Dev nD) (k : Fin 7) : sProp 𝕄 :=
  iprop(cred (tallyAt (recvCell c (peer c (k.val + 1))) () N) ∗ atPos ER (recvCell c (peer c (k.val + 1))) 0 ∅ 0)
def rwDone (c : Dev nD) (k : Fin 7) : sProp 𝕄 :=
  iprop(slotPts c (peer c (k.val + 1)) (recvAll m ρ c) ∗ atPos ER (recvCell c (peer c (k.val + 1))) 1 ∅ 0)
def rwSt (c : Dev nD) (j : ℕ) : sProp 𝕄 := iprop(owe c (owFin c 7) ∗ mix (rwItem c) (rwDone m ρ c) j)

theorem recv_step {α : Type} {Ψ : α → sProp 𝕄} {k : PUnit → Prog (TpuEff nD τ sig (Elt F) Λ₀ .tc) α} (j : ℕ) (hj : j < 7) {q : DmaSem sig} (hq : q = recvS (peer c (j + 1)))
    {src : Memref sig .tc .vmem S32x256 .f32} {off : Fin 3 → ℕ} {inb} {hsrc : src.view.WordExact} {hdst : (slotM off inb).view.WordExact} :
    iprop(records m ρ K ∗ levAts L lv ∗ rwSt m ρ c j)
      ⊢ iprop((rwSt m ρ c (j + 1) -∗ wp frame (wpE (defs₀ (F := F)) 𝒱₀ (c : Thread nD τ) none) Set.univ (k ⟨⟩) Ψ)
        -∗ wp frame (wpE (defs₀ (F := F)) 𝒱₀ (c : Thread nD τ) none) Set.univ (.op (.waitDma2 q src (slotM off inb) hsrc hdst) k) Ψ) := by
  subst hq
  unfold rwSt owe
  iintro ⟨#HR, #Hlev, ⟨%W, HO⟩, Hm⟩ Hk
  ihave Hs := (mix_step (rwItem c) (rwDone m ρ c) j hj) $$ Hm
  unfold rwItem rwDone
  icases Hs with ⟨⟨Hc, Hat⟩, Hback⟩
  iapply (Rounds.wp_wait_rest_token 𝒱₀ ER (Rd m ρ) (c : Thread nD τ) none (κ := K (c, recvI (peer c (j + 1))))
      (wpE_waitDma2_eq 𝒱₀ (c : Thread nD τ) none Set.univ) (Set.mem_univ _) () (O := owFin c 7) (W := W) (R := 0) (m := 0) (T := ∅)
      (by rw [Nat.zero_add, expect_recv m ρ c _ (self_ne_peer c j hj).symm])) $$ [Hc HO Hat]
  · isplitr; · iapply (inv_at m ρ K (c, recvI (peer c (j + 1))) (kcell_recv _ _)); iexact HR
    isplitl [Hc]; · iexact Hc
    isplitl [HO]; · iexact HO
    isplitr; · iapply (mayWait_of 2 (le_of_eq (lv_recv c _)) (above_fin c 7)); iexact Hlev
    iexact Hat
  iintro ⟨HO, Hat, -, Hp⟩
  iapply Hk
  isplitl [HO]; · iexists _; iexact HO
  iapply Hback
  isplitl [Hp]
  · iapply (show _ ⊢ slotPts c (peer c (j + 1)) (recvAll m ρ c) from Entails.of_eq (rest_recv m ρ c _ (self_ne_peer c j hj).symm)); iexact Hp
  iexact Hat

/-- The send waits: the credit and the position; each leaves the row block back and the position moved on. -/
def swItem (c : Dev nD) (k : Fin 7) : sProp 𝕄 := iprop(cred (tallyAt (sendCell c k.succ) () N) ∗ atPos ER (sendCell c k.succ) 0 ∅ 0)
def swDone (c : Dev nD) (k : Fin 7) : sProp 𝕄 := iprop(rowPts c (peer c (k.val + 1)) (accAt m ρ c) ∗ atPos ER (sendCell c k.succ) 1 ∅ 0)
def swSt (c : Dev nD) (j : ℕ) : sProp 𝕄 := iprop(owe c (owFin c 7) ∗ mix (swItem c) (swDone m ρ c) j)

theorem lv_send (c : Dev nD) (k : Fin 8) : lv (sendCell c k) () = 0 := by
  show (if 14 ≤ 6 + k.val then 2 else 0) = 0
  exact if_neg (by omega)

theorem send_step {α : Type} {Ψ : α → sProp 𝕄} {k : PUnit → Prog (TpuEff nD τ sig (Elt F) Λ₀ .tc) α} (j : ℕ) (hj : j < 7) {q : DmaSem sig} (hq : q = sendS (⟨j, hj⟩ : Fin 7).succ)
    {src : Memref sig .tc .vmem S32x256 .f32} {off : Fin 2 → ℕ} {inb} {hsrc : src.view.WordExact} {hdst : (rowM off inb).view.WordExact} :
    iprop(records m ρ K ∗ levAts L lv ∗ swSt m ρ c j)
      ⊢ iprop((swSt m ρ c (j + 1) -∗ wp frame (wpE (defs₀ (F := F)) 𝒱₀ (c : Thread nD τ) none) Set.univ (k ⟨⟩) Ψ)
        -∗ wp frame (wpE (defs₀ (F := F)) 𝒱₀ (c : Thread nD τ) none) Set.univ (.op (.waitDma2 q src (rowM off inb) hsrc hdst) k) Ψ) := by
  subst hq
  unfold swSt owe
  iintro ⟨#HR, #Hlev, ⟨%W, HO⟩, Hm⟩ Hk
  ihave Hs := (mix_step (swItem c) (swDone m ρ c) j hj) $$ Hm
  unfold swItem swDone
  icases Hs with ⟨⟨Hc, Hat⟩, Hback⟩
  iapply (Rounds.wp_wait_rest_token 𝒱₀ ER (Rd m ρ) (c : Thread nD τ) none (κ := K (c, sendI (⟨j, hj⟩ : Fin 7).succ))
      (wpE_waitDma2_eq 𝒱₀ (c : Thread nD τ) none Set.univ) (Set.mem_univ _) () (O := owFin c 7) (W := W) (R := 0) (m := 0) (T := ∅)
      (by rw [Nat.zero_add, expect_send m ρ c _ (Fin.succ_ne_zero _)])) $$ [Hc HO Hat]
  · isplitr; · iapply (inv_at m ρ K (c, sendI (⟨j, hj⟩ : Fin 7).succ) (kcell_send _ _)); iexact HR
    isplitl [Hc]; · iexact Hc
    isplitl [HO]; · iexact HO
    isplitr; · iapply (mayWait_of 2 (by rw [lv_send]; decide) (above_fin c 7)); iexact Hlev
    iexact Hat
  iintro ⟨HO, Hat, -, Hp⟩
  iapply Hk
  isplitl [HO]; · iexists _; iexact HO
  iapply Hback
  isplitl [Hp]
  · iapply (show _ ⊢ rowPts c (peer c (j + 1)) (accAt m ρ c) from Entails.of_eq (rest_send m ρ c (⟨j, hj⟩ : Fin 7).succ (Fin.succ_ne_zero _))); iexact Hp
  iexact Hat

end Steps

end Cert.MoeProof

end
-- ==== Proof.Body.lean ====
module

public import proofs.«01_k».proof.Proof.Steps

/-!
# The body's parts

Each printed part of the body, symbolically executed: which loops' states it takes how far.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 18 → ℕ) (c : Dev nD)

/-- A part of the body at the buffers and semaphores the call is staged with. -/
abbrev staged {α : Type 1} (p : (arg0 : Memref sig .tc .vmem S256x128 .bf16) → arg0.IsWhole → (arg1 : Memref sig .tc .vmem S128x16 .bf16) → arg1.IsWhole
    → (arg2 : Memref sig .tc .vmem S256x1 .i32) → arg2.IsWhole → (arg3 : Memref sig .tc .vmem S2x128x256 .bf16) → arg3.IsWhole
    → (arg4 : Memref sig .tc .vmem S128x256 .bf16) → arg4.IsWhole → (arg5 : Memref sig .tc .vmem S32x256 .f32) → arg5.IsWhole
    → (arg6 : Memref sig .tc .vmem S256x256 .f32) → arg6.IsWhole → (arg7 : Memref sig .tc .vmem S8x32x256 .f32) → arg7.IsWhole
    → DmaSems sig S8 → DmaSems sig S8 → Sems sig S_ → α) : α :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3 cc0_scoped0

/-! ## The devices addressed -/

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 3 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 5 := by revert c; decide +kernel
theorem dev13_eq (c : Dev nD) : (⟨k0_dev13 c, k0_dev13_lt c⟩ : Dev nD) = peer c 6 := by revert c; decide +kernel
theorem dev14_eq (c : Dev nD) : (⟨k0_dev14 c, k0_dev14_lt c⟩ : Dev nD) = peer c 7 := by revert c; decide +kernel
theorem dev15_eq (c : Dev nD) : (⟨k0_dev15 c, k0_dev15_lt c⟩ : Dev nD) = peer c 1 := by revert c; decide +kernel
theorem dev16_eq (c : Dev nD) : (⟨k0_dev16 c, k0_dev16_lt c⟩ : Dev nD) = peer c 2 := by revert c; decide +kernel
theorem dev17_eq (c : Dev nD) : (⟨k0_dev17 c, k0_dev17_lt c⟩ : Dev nD) = peer c 3 := by revert c; decide +kernel
theorem dev18_eq (c : Dev nD) : (⟨k0_dev18 c, k0_dev18_lt c⟩ : Dev nD) = peer c 4 := by revert c; decide +kernel
theorem dev19_eq (c : Dev nD) : (⟨k0_dev19 c, k0_dev19_lt c⟩ : Dev nD) = peer c 5 := by revert c; decide +kernel
theorem dev20_eq (c : Dev nD) : (⟨k0_dev20 c, k0_dev20_lt c⟩ : Dev nD) = peer c 6 := by revert c; decide +kernel
theorem dev21_eq (c : Dev nD) : (⟨k0_dev21 c, k0_dev21_lt c⟩ : Dev nD) = peer c 7 := by revert c; decide +kernel

/-! ## The barrier -/

abbrev v3₀ : Sems sig S_ := SemArray.scalar (sig.barrier 0 rfl)

theorem part1 {Ψ : (Σ' (d0 : Dev nD) (v2 : BitVec 32) (v3 : Sems sig S_) (v30 : BitVec 32) (c8_i32_18 : BitVec 32), BitVec 1) → sProp 𝕄} :
    iprop(records m ρ K ∗ barSt (F := F) c 0)
      ⊢ iprop((∀ v30 w v31, barSt (F := F) c 2 -∗ Ψ ⟨c, myW c, v3₀, v30, w, v31⟩)
        -∗ wp frame (wpE (defs₀ (F := F)) 𝒱₀ (c : Thread nD τ) none) Set.univ (staged (k0_part1 (F := F))) Ψ) := by
  unfold staged; rw [k0_part1_eq_skeleton]; unfold k0_part1_skel
  simp only [semSignalWord, semWaitWord, Prog.lift, Prog.bind_op, Prog.bind_ret, Prog.pure_eq_ret, wp_deviceId]
  iintro ⟨#HR, H⟩ Hk
  iapply (bar_step m ρ K c 0 (by decide) (dev1_eq c) (by decide)) $$ [H]
  · isplitr; · iexact HR
    iexact H
  iintro H
  iapply (bar_step m ρ K c 1 (by decide) (dev2_eq c) (by decide)) $$ [H]
  · isplitr; · iexact HR
    iexact H
  iintro H
  rw [wp_ret]; imodintro
  iapply Hk; iexact H

theorem part2 {w : BitVec 32} {w1 : BitVec 32} {w2 : BitVec 32} {w3 : BitVec 1} {Ψ : (Σ' (v59 : BitVec 32) (v64 : BitVec 1), BitVec 32) → sProp 𝕄} :
    iprop(records m ρ K ∗ barSt (F := F) c 2)
      ⊢ iprop((∀ x, barSt (F := F) c 4 -∗ Ψ x)
        -∗ wp frame (wpE (defs₀ (F := F)) 𝒱₀ (c : Thread nD τ) none) Set.univ (staged (k0_part2 (F := F)) c w v3₀ w1 w2 w3) Ψ) := by
  unfold staged; rw [k0_part2_eq_skeleton]; unfold k0_part2_skel
  simp only [semSignalWord, semWaitWord, Prog.lift, Prog.bind_op, Prog.bind_ret, Prog.pure_eq_ret]
  iintro ⟨#HR, H⟩ Hk
  iapply (bar_step m ρ K c 2 (by decide) (dev3_eq c) (by decide)) $$ [H]
  · isplitr; · iexact HR
    iexact H
  iintro H
  iapply (bar_step m ρ K c 3 (by decide) (dev4_eq c) (by decide)) $$ [H]
  · isplitr; · iexact HR
    iexact H
  iintro H
  rw [wp_ret]; imodintro
  iapply Hk; iexact H

theorem part3 {w w1 w3 : BitVec 32} {w2 : BitVec 1} {Ψ : PUnit → sProp 𝕄} :
    iprop(records m ρ K ∗ levAts L lv ∗ cred (tallyAt (barCell c) () 7) ∗ atPos ER (barCell c) 0 ∅ 0 ∗ barSt (F := F) c 4)
      ⊢ iprop(((owe (F := F) c (owRecv c 7) ∗ atPos ER (barCell c) 1 ∅ 0 ∗ bigSep Finset.univ fun j : Fin 7 => barPay (F := F) c (peer c (j.val + 1))) -∗ Ψ ⟨⟩)
        -∗ wp frame (wpE (defs₀ (F := F)) 𝒱₀ (c : Thread nD τ) none) Set.univ (staged (k0_part3 (F := F)) c w v3₀ w1 w2 w3) Ψ) := by
  unfold staged; rw [k0_part3_eq_skeleton]; unfold k0_part3_skel
  simp only [semSignalWord, semWaitWord, Prog.lift, Prog.bind_op, Prog.bind_ret, Prog.pure_eq_ret]
  iintro ⟨#HR, #Hlev, Hc, Hat, H⟩ Hk
  iapply (bar_step m ρ K c 4 (by decide) (dev5_eq c) (by decide)) $$ [H]
  · isplitr; · iexact HR
    iexact H
  iintro H
  iapply (bar_step m ρ K c 5 (by decide) (dev6_eq c) (by decide)) $$ [H]
  · isplitr; · iexact HR
    iexact H
  iintro H
  iapply (bar_step m ρ K c 6 (by decide) (dev7_eq c) (by decide)) $$ [H]
  · isplitr; · iexact HR
    iexact H
  iintro H
  unfold barSt
  icases H with ⟨HO, -⟩
  iapply (bar_wait m ρ K c (by decide)) $$ [Hc Hat HO]
  · isplitr; · iexact HR
    isplitr; · iexact Hlev
    isplitl [Hc]; · iexact Hc
    isplitl [Hat]; · iexact Hat
    iexact HO
  iintro H
  rw [wp_ret]; imodintro
  iapply Hk; iexact H

/-! ## The device's own experts -/

/-- Device `c`'s buffer `b` holds `f`. -/
abbrev holds (c : Dev nD) (b : Ref sig .tc) (f : b.ty.Contents (Elt F)) : sProp 𝕄 := ((c : Thread nD τ).loc b) ↦{fullShare} (f : Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem part4 {Ψ : (Σ' (v110 : IVec S256x1 32) (v117 : FVec F S256x1 .f32) (v119 : FVec F S256x128 .bf16) (v132 : FVec F S256x256 .f32), IVec S256x1 32) → sProp 𝕄} :
    iprop(holds c cc0_stg0_0 (xstg m ρ c) ∗ holds c cc0_stg1_0 (rwstg m ρ c) ∗ holds c cc0_stg2_0 (idxstg m ρ c) ∗ holds c cc0_stg3_0 (ewstg m ρ c))
      ⊢ iprop(((holds c cc0_stg0_0 (xstg m ρ c) ∗ holds c cc0_stg1_0 (rwstg m ρ c) ∗ holds c cc0_stg2_0 (idxstg m ρ c) ∗ holds c cc0_stg3_0 (ewstg m ρ c))
          -∗ Ψ ⟨k0_pay1 (idxstg m ρ c), k0_pay2 (xstg m ρ c) (rwstg m ρ c) (idxstg m ρ c), k0_pay3 (xstg m ρ c),
            k0_pay4 (myW c) (xstg m ρ c) (rwstg m ρ c) (idxstg m ρ c) (xstg m ρ c) (w0 m ρ c), k0_pay5 (myW c)⟩)
        -∗ wp frame (wpE (defs₀ (F := F)) 𝒱₀ (c : Thread nD τ) none) Set.univ (staged (k0_part4 (F := F)) (myW c)) Ψ) := by
  unfold staged; rw [k0_part4_eq_skeleton]; unfold k0_part4_skel
  simp only [semSignalWord, semWaitWord, Prog.lift, Prog.bind_op, Prog.bind_ret, Prog.pure_eq_ret]
  have hx : (Memref.whole cc0_stg0_0 : Memref sig .tc .vmem S256x128 .bf16).view.readAt (Elt F)
      (Rect.unit (s := S256x128) ![0, 0] S256x128.size inb_S256x128_S256x128_0_0).toLoadRect (xstg m ρ c) = xstg m ρ c :=
    Memref.readAt_unit_zero (Elt F) cc0_stg0_0 hz2 _ _
  have hr : (Memref.whole cc0_stg1_0 : Memref sig .tc .vmem S128x16 .bf16).view.readAt (Elt F)
      (Rect.unit (s := S128x16) ![0, 0] S128x16.size inb_S128x16_S128x16_0_0).toLoadRect (rwstg m ρ c) = rwstg m ρ c :=
    Memref.readAt_unit_zero (Elt F) cc0_stg1_0 hz2 _ _
  have hi : (Memref.whole cc0_stg2_0 : Memref sig .tc .vmem S256x1 .i32).view.readAt (Elt F)
      (Rect.unit (s := S256x1) ![0, 0] S256x1.size inb_S256x1_S256x1_0_0).toLoadRect (idxstg m ρ c) = idxstg m ρ c :=
    Memref.readAt_unit_zero (Elt F) cc0_stg2_0 hz2 _ _
  have he : (Memref.whole cc0_stg3_0 : Memref sig .tc .vmem S2x128x256 .bf16).view.readAt (Elt F) rE0.toLoadRect (ewstg m ρ c) = w0 m ρ c := rfl
  iintro ⟨Hx, Hr, Hi, He⟩ Hk
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hr; iintro Hr
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ He; iintro He
  rw [hx, hr, hi, he, wp_ret]; imodintro
  iapply Hk
  isplitl [Hx]; · iexact Hx
  isplitl [Hr]; · iexact Hr
  isplitl [Hi]; · iexact Hi
  iexact He

/-- What the copies start from. -/
theorem copy_start :
    iprop(owe c (owRecv c 7) ∗ (bigSep Finset.univ fun k : Fin 7 => rowPts c (peer c (k.val + 1)) (accAt m ρ c))
        ∗ (bigSep Finset.univ fun k : Fin 7 => barPay (F := F) c (peer c (k.val + 1)))
        ∗ (bigSep Finset.univ fun k : Fin 7 => dutyTok ER (sendCell c k.succ) 0 0) ∗ (bigSep Finset.univ fun k : Fin 7 => dutyTok ER (recvCell (peer c (k.val + 1)) c) 0 0))
      ⊢ copySt m ρ c 0 := by
  unfold copySt; rw [mix_zero]; unfold copyItem
  refine sep_mono_right (Entails.of_eq ?_)
  exact ((bigSep_sep _ _ _).trans (congrArg _ ((bigSep_sep _ _ _).trans (congrArg _ (bigSep_sep _ _ _))))).symm

theorem part5 {Ψ : (Σ' (v168 : BitVec 32) (c8_i32_104 : BitVec 32), BitVec 32) → sProp 𝕄} :
    iprop(records m ρ K ∗ holds c cc0_stg3_0 (ewstg m ρ c) ∗ (∃ f, accPts (F := F) c f) ∗ owe c (owRecv c 7)
        ∗ (bigSep Finset.univ fun k : Fin 7 => barPay (F := F) c (peer c (k.val + 1)))
        ∗ (bigSep Finset.univ fun k : Fin 7 => dutyTok ER (sendCell c k.succ) 0 0) ∗ (bigSep Finset.univ fun k : Fin 7 => dutyTok ER (recvCell (peer c (k.val + 1)) c) 0 0))
      ⊢ iprop((∀ x, (holds c cc0_stg3_0 (ewstg m ρ c) ∗ rowPts c c (accAt m ρ c) ∗ copySt m ρ c 1) -∗ Ψ x)
        -∗ wp frame (wpE (defs₀ (F := F)) 𝒱₀ (c : Thread nD τ) none) Set.univ
          (staged (k0_part5 (F := F)) c (myW c) (k0_pay1 (idxstg m ρ c)) (k0_pay2 (xstg m ρ c) (rwstg m ρ c) (idxstg m ρ c)) (k0_pay3 (xstg m ρ c))
            (k0_pay4 (myW c) (xstg m ρ c) (rwstg m ρ c) (idxstg m ρ c) (xstg m ρ c) (w0 m ρ c)) (k0_pay5 (myW c))) Ψ) := by
  unfold staged; rw [k0_part5_eq_skeleton]; unfold k0_part5_skel
  simp only [semSignalWord, semWaitWord, Prog.lift, Prog.bind_op, Prog.bind_ret, Prog.pure_eq_ret]
  have hw (f w : (cc0_scratch0 : Ref sig .tc).ty.Contents (Elt F)) :
      ((accM : Memref sig .tc .vmem S256x256 .f32).access (Rect.unit (s := S256x256) ![0, 0] S256x256.size inb_S256x256_S256x256_0_0) : View sig .tc _ _ _).write (Elt F) f w Finset.univ = w :=
    Memref.write_access_unit_zero_univ (Elt F) cc0_scratch0 hz2 _ f w
  have he : (Memref.whole cc0_stg3_0 : Memref sig .tc .vmem S2x128x256 .bf16).view.readAt (Elt F) rE1.toLoadRect (ewstg m ρ c) = w1 m ρ c := rfl
  have ha : k0_pay6 (k0_pay1 (idxstg m ρ c)) (k0_pay2 (xstg m ρ c) (rwstg m ρ c) (idxstg m ρ c)) (k0_pay3 (xstg m ρ c))
      (k0_pay4 (myW c) (xstg m ρ c) (rwstg m ρ c) (idxstg m ρ c) (xstg m ρ c) (w0 m ρ c)) (k0_pay5 (myW c)) (w1 m ρ c) = accAt m ρ c := rfl
  unfold accPts
  iintro ⟨#HR, He, ⟨%f, Ha⟩, HO, Hb, Hs, Hr⟩ Hk
  iapply (wp_load 𝒱₀ (c : Thread nD τ) none Set.univ (m := Memref.whole cc0_stg3_0) (Finset.subset_univ _)) $$ He; iintro He
  iapply (wp_load 𝒱₀ (c : Thread nD τ) none Set.univ (m := accM) (Finset.subset_univ _)) $$ Ha; iintro Ha
  iapply (wp_store 𝒱₀ (c : Thread nD τ) none Set.univ (m := accM) (r := Rect.unit (s := S256x256) ![0, 0] S256x256.size inb_S256x256_S256x256_0_0) (Mk := Finset.univ)
    (Finset.subset_univ _)) $$ Ha; iintro Ha
  rw [hw, he, ha]
  ihave Hrows := (show ((c : Thread nD τ).loc cc0_scratch0 ↦{fullShare} accAt m ρ c : sProp 𝕄)
      ⊢ iprop(rowPts c c (accAt m ρ c) ∗ bigSep Finset.univ fun k : Fin 7 => rowPts c (peer c (k.val + 1)) (accAt m ρ c)) from
    Entails.of_eq ((accPts_rows c (accAt m ρ c)).trans (bigSep_self_others c fun e => rowPts c e (accAt m ρ c)))) $$ Ha
  icases Hrows with ⟨Hown, Hrows⟩
  ihave H := (copy_start m ρ c) $$ [HO Hrows Hb Hs Hr]
  · isplitl [HO]; · iexact HO
    isplitl [Hrows]; · iexact Hrows
    isplitl [Hb]; · iexact Hb
    isplitl [Hs]; · iexact Hs
    iexact Hr
  iapply (copy_step m ρ K c 0 (by decide) (dev8_eq c) (off3_at c 0) (k0_off2_eq c) (send_sem 1 rfl _) (recv_sem c (off1_at c) _)) $$ [H]
  · isplitr; · iexact HR
    iexact H
  iintro H
  rw [wp_ret]; imodintro
  iapply Hk
  isplitl [He]; · iexact He
  isplitl [Hown]; · iexact Hown
  iexact H

/-! ## The copies -/

theorem part6 {w w1 w2 w3 : BitVec 32} {Ψ : PUnit → sProp 𝕄} :
    iprop(records m ρ K ∗ copySt m ρ c 1)
      ⊢ iprop((copySt m ρ c 2 -∗ Ψ ⟨⟩) -∗ wp frame (wpE (defs₀ (F := F)) 𝒱₀ (c : Thread nD τ) none) Set.univ (staged (k0_part6 (F := F)) c w w1 w2 w3) Ψ) := by
  unfold staged; rw [k0_part6_eq_skeleton]; unfold k0_part6_skel
  simp only [semSignalWord, semWaitWord, Prog.lift, Prog.bind_op, Prog.bind_ret, Prog.pure_eq_ret]
  iintro ⟨#HR, H⟩ Hk
  iapply (copy_step m ρ K c 1 (by decide) (dev9_eq c) (off3_at c 1) (k0_off2_eq c) (send_sem 2 rfl _) (recv_sem c (off1_at c) _)) $$ [H]
  · isplitr; · iexact HR
    iexact H
  iintro H
  rw [wp_ret]; imodintro
  iapply Hk; iexact H

theorem part7 {w : BitVec 32} {Ψ : (Σ' (v233 : BitVec 32) (v234 : BitVec 32), BitVec 1) → sProp 𝕄} :
    iprop(records m ρ K ∗ copySt m ρ c 2)
      ⊢ iprop((∀ x, copySt m ρ c 4 -∗ Ψ x) -∗ wp frame (wpE (defs₀ (F := F)) 𝒱₀ (c : Thread nD τ) none) Set.univ (staged (k0_part7 (F := F)) c w) Ψ) := by
  unfold staged; rw [k0_part7_eq_skeleton]; unfold k0_part7_skel
  simp only [semSignalWord, semWaitWord, Prog.lift, Prog.bind_op, Prog.bind_ret, Prog.pure_eq_ret]
  iintro ⟨#HR, H⟩ Hk
  iapply (copy_step m ρ K c 2 (by decide) (dev10_eq c) (off3_at c 2) (k0_off2_eq c) (send_sem 3 rfl _) (recv_sem c (off1_at c) _)) $$ [H]
  · isplitr; · iexact HR
    iexact H
  iintro H
  iapply (copy_step m ρ K c 3 (by decide) (dev11_eq c) (off3_at c 3) (k0_off2_eq c) (send_sem 4 rfl _) (recv_sem c (off1_at c) _)) $$ [H]
  · isplitr; · iexact HR
    iexact H
  iintro H
  rw [wp_ret]; imodintro
  iapply Hk; iexact H

theorem part8 {w w1 w2 : BitVec 32} {w3 : BitVec 1} {Ψ : (Σ' (v273 : BitVec 32) (c8_i32_174 : BitVec 32), BitVec 32) → sProp 𝕄} :
    iprop(records m ρ K ∗ copySt m ρ c 4)
      ⊢ iprop((∀ x, copySt m ρ c 6 -∗ Ψ x) -∗ wp frame (wpE (defs₀ (F := F)) 𝒱₀ (c : Thread nD τ) none) Set.univ (staged (k0_part8 (F := F)) c w w1 w2 w3) Ψ) := by
  unfold staged; rw [k0_part8_eq_skeleton]; unfold k0_part8_skel
  simp only [semSignalWord, semWaitWord, Prog.lift, Prog.bind_op, Prog.bind_ret, Prog.pure_eq_ret]
  iintro ⟨#HR, H⟩ Hk
  iapply (copy_step m ρ K c 4 (by decide) (dev12_eq c) (off3_at c 4) (k0_off2_eq c) (send_sem 5 rfl _) (recv_sem c (off1_at c) _)) $$ [H]
  · isplitr; · iexact HR
    iexact H
  iintro H
  iapply (copy_step m ρ K c 5 (by decide) (dev13_eq c) (off3_at c 5) (k0_off2_eq c) (send_sem 6 rfl _) (recv_sem c (off1_at c) _)) $$ [H]
  · isplitr; · iexact HR
    iexact H
  iintro H
  rw [wp_ret]; imodintro
  iapply Hk; iexact H

/-- The last copy, then the device's own rows put into its own slot. -/
theorem part9 {w w1 w2 w3 : BitVec 32} {Ψ : (Σ' (v308 : FVec F S32x256 .f32) (v309 : BitVec 32), BitVec 32) → sProp 𝕄} :
    iprop(records m ρ K ∗ copySt m ρ c 6 ∗ rowPts c c (accAt m ρ c) ∗ (∃ f, slotPts (F := F) c c f) ∗ holds c cc0_stg0_0 (xstg m ρ c) ∗ holds c cc0_stg4_0 (swstg m ρ c))
      ⊢ iprop((∀ x y, (copySt m ρ c 7 ∗ rowPts c c (accAt m ρ c) ∗ slotPts c c (recvAll m ρ c) ∗ holds c cc0_stg0_0 (xstg m ρ c) ∗ holds c cc0_stg4_0 (swstg m ρ c))
          -∗ Ψ ⟨k0_pay8 (xmine m ρ c) (swstg m ρ c), x, y⟩)
        -∗ wp frame (wpE (defs₀ (F := F)) 𝒱₀ (c : Thread nD τ) none) Set.univ (staged (k0_part9 (F := F)) c w w1 w2 w3) Ψ) := by
  unfold staged; rw [k0_part9_eq_skeleton]; unfold k0_part9_skel
  simp only [semSignalWord, semWaitWord, Prog.lift, Prog.bind_op, Prog.bind_ret, Prog.pure_eq_ret]
  have hsw : (Memref.whole cc0_stg4_0 : Memref sig .tc .vmem S128x256 .bf16).view.readAt (Elt F)
      (Rect.unit (s := S128x256) ![0, 0] S128x256.size inb_S128x256_S128x256_0_0).toLoadRect (swstg m ρ c) = swstg m ρ c :=
    Memref.readAt_unit_zero (Elt F) cc0_stg4_0 hz2 _ _
  have hx : (Memref.whole cc0_stg0_0 : Memref sig .tc .vmem S256x128 .bf16).view.readAt (Elt F)
      (Rect.unit (s := S256x128) (k0_off6 c) S32x128.size (k0_off6_inb c)).toLoadRect (xstg m ρ c) = xmine m ρ c := rfl
  iintro ⟨#HR, H, Hrow, ⟨%f, Hslot⟩, Hx, Hsw⟩ Hk
  iapply (copy_step m ρ K c 6 (by decide) (dev14_eq c) (off3_at c 6) (k0_off2_eq c) (send_sem 7 rfl _) (recv_sem c (off1_at c) _)) $$ [H]
  · isplitr; · iexact HR
    iexact H
  iintro H
  unfold rowPts slotPts
  iapply (wp_load 𝒱₀ (c : Thread nD τ) none Set.univ (m := accM)
    (by rw [← row_set c (k0_off4_eq c) (k0_off4_inb c)]; exact (View.set_slice _ _).symm.subset)) $$ Hrow; iintro Hrow
  iapply (wp_load 𝒱₀ (c : Thread nD τ) none Set.univ (m := recvM)
    (by rw [← slot3_set c (k0_off5_eq c) (k0_off5_inb c)]; exact (View.set_slice _ _).symm.subset)) $$ Hslot; iintro Hslot
  iapply (wp_store 𝒱₀ (c : Thread nD τ) none Set.univ (m := recvM) (r := Rect.unit (s := S8x32x256) (k0_off5 c) S1x32x256.size (k0_off5_inb c)) (Mk := Finset.univ)
    (by rw [← slot3_set c (k0_off5_eq c) (k0_off5_inb c)]; exact subset_rfl)) $$ Hslot; iintro Hslot
  ihave Hslot := (show _ ⊢ (((c : Thread nD τ).loc cc0_scratch1) ↦[slotSet c]{fullShare} recvAll m ρ c : sProp 𝕄) from
    Entails.of_eq (pointsTo_congr (by
      rw [← slot3_set c (k0_off5_eq c) (k0_off5_inb c)]
      exact write_agrees (slotM3 (k0_off5 c) (k0_off5_inb c)).view _ _ _ (read_slot3 m ρ c c (k0_off5_eq c) _ (k0_off4_eq c) (k0_off4_inb c))))) $$ Hslot
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg4_0) (Finset.subset_univ _)) $$ Hsw; iintro Hsw
  rw [hsw, hx, wp_ret]; imodintro
  iapply Hk
  isplitl [H]; · iexact H
  isplitl [Hrow]; · iexact Hrow
  isplitl [Hslot]; · iexact Hslot
  isplitl [Hx]; · iexact Hx
  iexact Hsw

end Cert.MoeProof

end
-- ==== Proof.Body2.lean ====
module

public import proofs.«01_k».proof.Proof.Body

/-!
# The rest of the body, and the body as a whole

The receive waits, the sum stored, the send waits and the exit rendezvous; every cell closed; the parts put together.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 18 → ℕ) (c : Dev nD)

/-! ## The receive waits -/

theorem part10 {w w1 w2 : BitVec 32} {Ψ : PUnit → sProp 𝕄} :
    iprop(records m ρ K ∗ levAts L lv ∗ rwSt m ρ c 0)
      ⊢ iprop((rwSt m ρ c 1 -∗ Ψ ⟨⟩) -∗ wp frame (wpE (defs₀ (F := F)) 𝒱₀ (c : Thread nD τ) none) Set.univ (staged (k0_part10 (F := F)) c w w1 w2) Ψ) := by
  unfold staged; rw [k0_part10_eq_skeleton]; unfold k0_part10_skel
  simp only [semSignalWord, semWaitWord, Prog.lift, Prog.bind_op, Prog.bind_ret, Prog.pure_eq_ret]
  iintro ⟨#HR, #Hlev, H⟩ Hk
  iapply (recv_step m ρ K c 0 (by decide) (recv_sem (peer c 1) (off7_at c 0) _)) $$ [H]
  · isplitr; · iexact HR
    isplitr; · iexact Hlev
    iexact H
  iintro H
  rw [wp_ret]; imodintro
  iapply Hk; iexact H

theorem part11 {w : BitVec 32} {Ψ : PUnit → sProp 𝕄} :
    iprop(records m ρ K ∗ levAts L lv ∗ rwSt m ρ c 1)
      ⊢ iprop((rwSt m ρ c 3 -∗ Ψ ⟨⟩) -∗ wp frame (wpE (defs₀ (F := F)) 𝒱₀ (c : Thread nD τ) none) Set.univ (staged (k0_part11 (F := F)) c w) Ψ) := by
  unfold staged; rw [k0_part11_eq_skeleton]; unfold k0_part11_skel
  simp only [semSignalWord, semWaitWord, Prog.lift, Prog.bind_op, Prog.bind_ret, Prog.pure_eq_ret]
  iintro ⟨#HR, #Hlev, H⟩ Hk
  iapply (recv_step m ρ K c 1 (by decide) (recv_sem (peer c 2) (off7_at c 1) _)) $$ [H]
  · isplitr; · iexact HR
    isplitr; · iexact Hlev
    iexact H
  iintro H
  iapply (recv_step m ρ K c 2 (by decide) (recv_sem (peer c 3) (off7_at c 2) _)) $$ [H]
  · isplitr; · iexact HR
    isplitr; · iexact Hlev
    iexact H
  iintro H
  rw [wp_ret]; imodintro
  iapply Hk; iexact H

theorem part12 {w : BitVec 32} {Ψ : PUnit → sProp 𝕄} :
    iprop(records m ρ K ∗ levAts L lv ∗ rwSt m ρ c 3)
      ⊢ iprop((rwSt m ρ c 5 -∗ Ψ ⟨⟩) -∗ wp frame (wpE (defs₀ (F := F)) 𝒱₀ (c : Thread nD τ) none) Set.univ (staged (k0_part12 (F := F)) c w) Ψ) := by
  unfold staged; rw [k0_part12_eq_skeleton]; unfold k0_part12_skel
  simp only [semSignalWord, semWaitWord, Prog.lift, Prog.bind_op, Prog.bind_ret, Prog.pure_eq_ret]
  iintro ⟨#HR, #Hlev, H⟩ Hk
  iapply (recv_step m ρ K c 3 (by decide) (recv_sem (peer c 4) (off7_at c 3) _)) $$ [H]
  · isplitr; · iexact HR
    isplitr; · iexact Hlev
    iexact H
  iintro H
  iapply (recv_step m ρ K c 4 (by decide) (recv_sem (peer c 5) (off7_at c 4) _)) $$ [H]
  · isplitr; · iexact HR
    isplitr; · iexact Hlev
    iexact H
  iintro H
  rw [wp_ret]; imodintro
  iapply Hk; iexact H

/-- Every slot filled, they are the whole landing buffer. -/
theorem land_join :
    iprop(slotPts c c (recvAll m ρ c) ∗ bigSep Finset.univ (rwDone m ρ c))
      ⊢ iprop(((c : Thread nD τ).loc cc0_scratch1 ↦{fullShare} recvAll m ρ c) ∗ bigSep Finset.univ fun k : Fin 7 => atPos ER (recvCell c (peer c (k.val + 1))) 1 ∅ 0) := by
  have h : bigSep Finset.univ (rwDone m ρ c) = (iprop((bigSep Finset.univ fun k : Fin 7 => slotPts c (peer c (k.val + 1)) (recvAll m ρ c))
      ∗ bigSep Finset.univ fun k : Fin 7 => atPos ER (recvCell c (peer c (k.val + 1))) 1 ∅ 0) : sProp 𝕄) := bigSep_sep _ _ _
  have h' : ((c : Thread nD τ).loc cc0_scratch1 ↦{fullShare} recvAll m ρ c : sProp 𝕄)
      = iprop(slotPts c c (recvAll m ρ c) ∗ bigSep Finset.univ fun k : Fin 7 => slotPts c (peer c (k.val + 1)) (recvAll m ρ c)) :=
    (landPts_slots c (recvAll m ρ c)).trans (bigSep_self_others c fun e => slotPts c e (recvAll m ρ c))
  rw [h, h']
  iintro ⟨H1, H2, H3⟩
  isplitr [H3]
  · isplitl [H1]; · iexact H1
    iexact H2
  iexact H3

theorem part13 {w : BitVec 32} {Ψ : PUnit → sProp 𝕄} :
    iprop(records m ρ K ∗ levAts L lv ∗ rwSt m ρ c 5 ∗ slotPts c c (recvAll m ρ c) ∗ (∃ f, holds (F := F) c cc0_stg5_0 f))
      ⊢ iprop(((owe (F := F) c (owFin c 7) ∗ holds c cc0_scratch1 (recvAll m ρ c)
            ∗ (bigSep Finset.univ fun k : Fin 7 => atPos ER (recvCell c (peer c (k.val + 1))) 1 ∅ 0) ∗ holds c cc0_stg5_0 (outAt m ρ c)) -∗ Ψ ⟨⟩)
        -∗ wp frame (wpE (defs₀ (F := F)) 𝒱₀ (c : Thread nD τ) none) Set.univ (staged (k0_part13 (F := F)) c w (k0_pay8 (xmine m ρ c) (swstg m ρ c))) Ψ) := by
  unfold staged; rw [k0_part13_eq_skeleton]; unfold k0_part13_skel
  simp only [semSignalWord, semWaitWord, Prog.lift, Prog.bind_op, Prog.bind_ret, Prog.pure_eq_ret]
  have hl : (recvM : Memref sig .tc .vmem S8x32x256 .f32).view.readAt (Elt F)
      (Rect.unit (s := S8x32x256) ![0, 0, 0] S8x32x256.size inb_S8x32x256_S8x32x256_0_0_0).toLoadRect (recvAll m ρ c) = recvAll m ρ c :=
    Memref.readAt_unit_zero (Elt F) cc0_scratch1 hz3 _ _
  have hw (f w : (cc0_stg5_0 : Ref sig .tc).ty.Contents (Elt F)) :
      ((Memref.whole cc0_stg5_0 : Memref sig .tc .vmem S32x256 .f32).access (Rect.unit (s := S32x256) ![0, 0] S32x256.size inb_S32x256_S32x256_0_0) : View sig .tc _ _ _).write (Elt F) f w Finset.univ = w :=
    Memref.write_access_unit_zero_univ (Elt F) cc0_stg5_0 hz2 _ f w
  have ho : k0_pay9 (k0_pay8 (xmine m ρ c) (swstg m ρ c)) (recvAll m ρ c) = outAt m ρ c := rfl
  iintro ⟨#HR, #Hlev, H, Hown, ⟨%f, Hout⟩⟩ Hk
  iapply (recv_step m ρ K c 5 (by decide) (recv_sem (peer c 6) (off7_at c 5) _)) $$ [H]
  · isplitr; · iexact HR
    isplitr; · iexact Hlev
    iexact H
  iintro H
  iapply (recv_step m ρ K c 6 (by decide) (recv_sem (peer c 7) (off7_at c 6) _)) $$ [H]
  · isplitr; · iexact HR
    isplitr; · iexact Hlev
    iexact H
  iintro H
  unfold rwSt; rw [mix_all]
  icases H with ⟨HO, Hm⟩
  ihave Hj := (land_join m ρ c) $$ [Hown Hm]
  · isplitl [Hown]; · iexact Hown
    iexact Hm
  icases Hj with ⟨Hl, Hat⟩
  iapply (wp_load 𝒱₀ (c : Thread nD τ) none Set.univ (m := recvM) (Finset.subset_univ _)) $$ Hl; iintro Hl
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := Rect.unit (s := S32x256) ![0, 0] S32x256.size inb_S32x256_S32x256_0_0)
    (Mk := Finset.univ) (Finset.subset_univ _)) $$ Hout; iintro Hout
  rw [hl, hw, ho, wp_ret]; imodintro
  iapply Hk
  isplitl [HO]; · iexact HO
  isplitl [Hl]; · iexact Hl
  isplitl [Hat]; · iexact Hat
  iexact Hout

/-! ## The send waits, the exit rendezvous -/

theorem part14 {Ψ : PUnit → sProp 𝕄} :
    iprop(records m ρ K ∗ levAts L lv ∗ swSt m ρ c 0)
      ⊢ iprop((swSt m ρ c 5 -∗ Ψ ⟨⟩) -∗ wp frame (wpE (defs₀ (F := F)) 𝒱₀ (c : Thread nD τ) none) Set.univ (staged (k0_part14 (F := F)) c) Ψ) := by
  unfold staged; rw [k0_part14_eq_skeleton]; unfold k0_part14_skel
  simp only [semSignalWord, semWaitWord, Prog.lift, Prog.bind_op, Prog.bind_ret, Prog.pure_eq_ret]
  iintro ⟨#HR, #Hlev, H⟩ Hk
  iapply (send_step m ρ K c 0 (by decide) (send_sem 1 rfl _)) $$ [H]
  · isplitr; · iexact HR
    isplitr; · iexact Hlev
    iexact H
  iintro H
  iapply (send_step m ρ K c 1 (by decide) (send_sem 2 rfl _)) $$ [H]
  · isplitr; · iexact HR
    isplitr; · iexact Hlev
    iexact H
  iintro H
  iapply (send_step m ρ K c 2 (by decide) (send_sem 3 rfl _)) $$ [H]
  · isplitr; · iexact HR
    isplitr; · iexact Hlev
    iexact H
  iintro H
  iapply (send_step m ρ K c 3 (by decide) (send_sem 4 rfl _)) $$ [H]
  · isplitr; · iexact HR
    isplitr; · iexact Hlev
    iexact H
  iintro H
  iapply (send_step m ρ K c 4 (by decide) (send_sem 5 rfl _)) $$ [H]
  · isplitr; · iexact HR
    isplitr; · iexact Hlev
    iexact H
  iintro H
  rw [wp_ret]; imodintro
  iapply Hk; iexact H

theorem part15 {w : BitVec 32} {Ψ : (Σ' (v498_r0 : BitVec 32), BitVec 32) → sProp 𝕄} :
    iprop(records m ρ K ∗ levAts L lv ∗ swSt m ρ c 5 ∗ (bigSep Finset.univ fun k : Fin 7 => dutyTok ER (finCell (peer c (k.val + 1))) 0 c))
      ⊢ iprop((∀ x, (bigSep Finset.univ (swDone m ρ c) ∗ finSt (F := F) c 1) -∗ Ψ x)
        -∗ wp frame (wpE (defs₀ (F := F)) 𝒱₀ (c : Thread nD τ) none) Set.univ (staged (k0_part15 (F := F)) c w) Ψ) := by
  unfold staged; rw [k0_part15_eq_skeleton]; unfold k0_part15_skel
  simp only [semSignalWord, semWaitWord, Prog.lift, Prog.bind_op, Prog.bind_ret, Prog.pure_eq_ret]
  iintro ⟨#HR, #Hlev, H, Ht⟩ Hk
  iapply (send_step m ρ K c 5 (by decide) (send_sem 6 rfl _)) $$ [H]
  · isplitr; · iexact HR
    isplitr; · iexact Hlev
    iexact H
  iintro H
  iapply (send_step m ρ K c 6 (by decide) (send_sem 7 rfl _)) $$ [H]
  · isplitr; · iexact HR
    isplitr; · iexact Hlev
    iexact H
  iintro H
  unfold swSt; rw [mix_all]
  icases H with ⟨HO, Hd⟩
  iapply (fin_step m ρ K c 0 (by decide) (dev15_eq c) (by decide)) $$ [HO Ht]
  · isplitr; · iexact HR
    unfold finSt; rw [mix_zero]
    isplitl [HO]; · iexact HO
    iexact Ht
  iintro H
  rw [wp_ret]; imodintro
  iapply Hk
  isplitl [Hd]; · iexact Hd
  iexact H

theorem part16 {w w1 w2 : BitVec 32} {Ψ : (Σ' (v529_r0 : BitVec 32), BitVec 32) → sProp 𝕄} :
    iprop(records m ρ K ∗ finSt (F := F) c 1)
      ⊢ iprop((∀ x, finSt (F := F) c 4 -∗ Ψ x) -∗ wp frame (wpE (defs₀ (F := F)) 𝒱₀ (c : Thread nD τ) none) Set.univ (staged (k0_part16 (F := F)) c w w1 w2) Ψ) := by
  unfold staged; rw [k0_part16_eq_skeleton]; unfold k0_part16_skel
  simp only [semSignalWord, semWaitWord, Prog.lift, Prog.bind_op, Prog.bind_ret, Prog.pure_eq_ret]
  iintro ⟨#HR, H⟩ Hk
  iapply (fin_step m ρ K c 1 (by decide) (dev16_eq c) (by decide)) $$ [H]
  · isplitr; · iexact HR
    iexact H
  iintro H
  iapply (fin_step m ρ K c 2 (by decide) (dev17_eq c) (by decide)) $$ [H]
  · isplitr; · iexact HR
    iexact H
  iintro H
  iapply (fin_step m ρ K c 3 (by decide) (dev18_eq c) (by decide)) $$ [H]
  · isplitr; · iexact HR
    iexact H
  iintro H
  rw [wp_ret]; imodintro
  iapply Hk; iexact H

theorem part17 {w w1 w2 : BitVec 32} {Ψ : (Σ' (v563_r0 : BitVec 32), BitVec 32) → sProp 𝕄} :
    iprop(records m ρ K ∗ finSt (F := F) c 4)
      ⊢ iprop((∀ x, finSt (F := F) c 6 -∗ Ψ x) -∗ wp frame (wpE (defs₀ (F := F)) 𝒱₀ (c : Thread nD τ) none) Set.univ (staged (k0_part17 (F := F)) c w w1 w2) Ψ) := by
  unfold staged; rw [k0_part17_eq_skeleton]; unfold k0_part17_skel
  simp only [semSignalWord, semWaitWord, Prog.lift, Prog.bind_op, Prog.bind_ret, Prog.pure_eq_ret]
  iintro ⟨#HR, H⟩ Hk
  iapply (fin_step m ρ K c 4 (by decide) (dev19_eq c) (by decide)) $$ [H]
  · isplitr; · iexact HR
    iexact H
  iintro H
  iapply (fin_step m ρ K c 5 (by decide) (dev20_eq c) (by decide)) $$ [H]
  · isplitr; · iexact HR
    iexact H
  iintro H
  rw [wp_ret]; imodintro
  iapply Hk; iexact H

/-! ## The eighteen cells -/

omit [FloatOps F] in
/-- A device's cells: barrier, exit, the unused send cell and the seven others, its own receive cell and the seven others. -/
theorem cells_split (c : Dev nD) (Φ : Fin 18 → sProp 𝕄) :
    bigSep Finset.univ Φ = iprop(Φ 0 ∗ Φ 1 ∗ (Φ (sendI 0) ∗ bigSep Finset.univ fun k : Fin 7 => Φ (sendI k.succ))
      ∗ (Φ (recvI c) ∗ bigSep Finset.univ fun k : Fin 7 => Φ (recvI (peer c (k.val + 1))))) := by
  have hu : (Finset.univ : Finset (Fin 18)) = insert 0 (insert 1 ((Finset.univ.map ⟨sendI, by decide⟩) ∪ (Finset.univ.map ⟨recvI, by decide⟩))) := by decide
  have h8 : bigSep Finset.univ (fun k : Fin 8 => Φ (sendI k)) = iprop(Φ (sendI 0) ∗ bigSep Finset.univ fun k : Fin 7 => Φ (sendI k.succ)) := by
    rw [Fin.univ_succ, Finset.cons_eq_insert, bigSep_insert (by simp), bigSep_map]; rfl
  rw [hu, bigSep_insert (by decide), bigSep_insert (by decide), bigSep_union (by decide), bigSep_map, bigSep_map]
  show iprop(Φ 0 ∗ Φ 1 ∗ bigSep Finset.univ (fun k : Fin 8 => Φ (sendI k)) ∗ bigSep Finset.univ (fun s : Fin 8 => Φ (recvI s))) = _
  rw [h8, bigSep_self_others c fun s => Φ (recvI s)]

/-- The round a cell has reached when the body ends: the two cells nothing is addressed to stay where they began. -/
def endR (c : Dev nD) (i : Fin 18) : ℕ := if i = sendI 0 ∨ i = recvI c then 0 else 1

theorem duties_end (i : Fin 18) : ∀ r, endR c i ≤ r → (Rd (F := F) m ρ).duties (kcell (c, i)) r = ∅ := by
  unfold endR
  split
  · rename_i h
    rcases h with rfl | rfl
    · rw [kcell_send]; exact duties_send0 m ρ c
    · rw [kcell_recv]; exact duties_recv0 m ρ c
  · exact duties_later m ρ _

theorem close_all :
    iprop(records m ρ K ∗ bigSep Finset.univ fun i : Fin 18 => atPos ER (kcell (c, i)) (endR c i) ∅ 0)
      ⊢ iprop(|={Set.univ}=> bigSep Finset.univ fun i : Fin 18 => semVal (kcell (c, i)) 0 : sProp 𝕄) := by
  refine (bigSep_with_persistent (Ψ := fun i => iprop(|={Set.univ}=> semVal (kcell (c, i)) 0)) fun i _ => ?_).trans (bigSep_fupd _ _)
  iintro ⟨#HR, Hat⟩
  iapply (Rounds.cell_close ER (Rd m ρ) (Set.mem_univ (K (c, i))) (fun h => h) (R := endR c i) (duties_end m ρ c i))
  isplitr; · iapply (inv_at m ρ K (c, i) rfl); iexact HR
  iexact Hat

theorem end_positions :
    iprop(atPos ER (barCell c) 1 ∅ 0 ∗ atPos ER (finCell c) 1 ∅ 0
        ∗ (atPos ER (kcell (c, sendI 0)) 0 ∅ 0 ∗ bigSep Finset.univ fun k : Fin 7 => atPos ER (sendCell c k.succ) 1 ∅ 0)
        ∗ (atPos ER (kcell (c, recvI c)) 0 ∅ 0 ∗ bigSep Finset.univ fun k : Fin 7 => atPos ER (recvCell c (peer c (k.val + 1))) 1 ∅ 0))
      ⊢ (bigSep Finset.univ fun i : Fin 18 => atPos ER (kcell (c, i)) (endR c i) ∅ 0 : sProp 𝕄) := by
  have e0 : endR c 0 = 1 := by revert c; decide
  have e1 : endR c 1 = 1 := by revert c; decide
  have e2 : endR c (sendI 0) = 0 := by revert c; decide
  have e3 (k : Fin 7) : endR c (sendI k.succ) = 1 := by revert c k; decide
  have e4 : endR c (recvI c) = 0 := by revert c; decide
  have e5 (k : Fin 7) : endR c (recvI (peer c (k.val + 1))) = 1 := by revert c k; decide
  rw [cells_split c]
  simp only [e0, e1, e2, e3, e4, e5, kcell_bar, kcell_fin, kcell_send, kcell_recv]
  exact BI.Entails.refl _

end Cert.MoeProof

end
-- ==== Proof.Whole.lean ====
module

public import proofs.«01_k».proof.Proof.Body2
public import proofs.«01_k».proof.Proof.Gen.KernelIdeal.Points

/-!
# The body as a whole

The parts put together in program order, and the library's obligation on the body.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 18 → ℕ) (c : Dev nD)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body starts from, its exchange state and scratch buffers laid out loop by loop. -/
def laidOut (c : Dev nD) : sProp 𝕄 :=
  iprop(mix (barItem c) (fun _ => iprop(emp)) 0 ∗ (∃ f, slotPts (F := F) c c f) ∗ (∃ f, accPts (F := F) c f)
    ∗ (cred (tallyAt (barCell c) () 7) ∗ atPos ER (barCell c) 0 ∅ 0)
    ∗ ((bigSep Finset.univ fun k : Fin 7 => dutyTok ER (sendCell c k.succ) 0 0) ∗ (bigSep Finset.univ fun k : Fin 7 => dutyTok ER (recvCell (peer c (k.val + 1)) c) 0 0))
    ∗ mix (rwItem c) (rwDone m ρ c) 0 ∗ (bigSep Finset.univ fun k : Fin 7 => atPos ER (sendCell c k.succ) 0 ∅ 0)
    ∗ (bigSep Finset.univ fun k : Fin 7 => dutyTok ER (finCell (peer c (k.val + 1))) 0 c) ∗ (cred (tallyAt (finCell c) () 7) ∗ atPos ER (finCell c) 0 ∅ 0)
    ∗ atPos ER (kcell (c, sendI 0)) 0 ∅ 0 ∗ atPos ER (kcell (c, recvI c)) 0 ∅ 0)

theorem lay_out :
    iprop((bigSep Finset.univ fun i : Fin 18 => atPos ER (kcell (c, i)) 0 ∅ 0) ∗ (bigSep Finset.univ fun k : Fin 7 => toks (F := F) c k) ∗ creds c
        ∗ (∃ f, accPts (F := F) c f) ∗ ∃ f, landPts (F := F) c f) ⊢ laidOut m ρ c := by
  have ht : (bigSep Finset.univ fun k : Fin 7 => toks (F := F) c k) = iprop((bigSep Finset.univ fun k : Fin 7 => dutyTok ER (barCell (peer c (k.val + 1))) 0 c)
      ∗ (bigSep Finset.univ fun k : Fin 7 => dutyTok ER (recvCell (peer c (k.val + 1)) c) 0 0)
      ∗ (bigSep Finset.univ fun k : Fin 7 => dutyTok ER (finCell (peer c (k.val + 1))) 0 c)
      ∗ (bigSep Finset.univ fun k : Fin 7 => dutyTok ER (sendCell c k.succ) 0 0)) :=
    (bigSep_sep _ _ _).trans (congrArg _ ((bigSep_sep _ _ _).trans (congrArg _ (bigSep_sep _ _ _))))
  have hb : mix (barItem (F := F) c) (fun _ => iprop(emp)) 0 = iprop((bigSep Finset.univ fun k : Fin 7 => dutyTok ER (barCell (peer c (k.val + 1))) 0 c)
      ∗ bigSep Finset.univ fun k : Fin 7 => iprop(∃ f, slotPts (F := F) c (peer c (k.val + 1)) f)) := (mix_zero _ _).trans (bigSep_sep _ _ _)
  have hr : mix (rwItem (F := F) c) (rwDone m ρ c) 0 = iprop((bigSep Finset.univ fun k : Fin 7 => cred (tallyAt (recvCell c (peer c (k.val + 1))) () N))
      ∗ bigSep Finset.univ fun k : Fin 7 => atPos ER (recvCell c (peer c (k.val + 1))) 0 ∅ 0) := (mix_zero _ _).trans (bigSep_sep _ _ _)
  have hl (f) : landPts (F := F) c f ⊢ iprop((∃ f, slotPts (F := F) c c f) ∗ bigSep Finset.univ fun k : Fin 7 => iprop(∃ f, slotPts (F := F) c (peer c (k.val + 1)) f)) := by
    rw [landPts_slots, bigSep_self_others c]
    have he (e : Fin 8) : slotPts (F := F) c e f ⊢ iprop(∃ f, slotPts (F := F) c e f) := by iintro H; iexists f; iexact H
    exact BIClass.sep_mono (he c) (bigSep_mono fun k _ => he _)
  unfold laidOut creds
  rw [ht, hb, hr, cells_split c]
  simp only [kcell_bar, kcell_fin, kcell_send, kcell_recv]
  iintro ⟨⟨PB, PF, ⟨PS0, PS⟩, PR0, PR⟩, ⟨TB, TR, TF, TS⟩, ⟨CB, CR, CF⟩, HA, ⟨%f, HL⟩⟩
  ihave HL := (hl f) $$ HL
  icases HL with ⟨HL0, HL⟩
  isplitl [TB HL]
  · isplitl [TB]; · iexact TB
    iexact HL
  isplitl [HL0]; · iexact HL0
  isplitl [HA]; · iexact HA
  isplitl [CB PB]
  · isplitl [CB]; · iexact CB
    iexact PB
  isplitl [TS TR]
  · isplitl [TS]; · iexact TS
    iexact TR
  isplitl [CR PR]
  · isplitl [CR]; · iexact CR
    iexact PR
  isplitl [PS]; · iexact PS
  isplitl [TF]; · iexact TF
  isplitl [CF PF]
  · isplitl [CF]; · iexact CF
    iexact PF
  isplitl [PS0]; · iexact PS0
  iexact PR0

/-- Every row block back, they are the whole contribution. -/
theorem acc_join :
    iprop(rowPts c c (accAt m ρ c) ∗ bigSep Finset.univ (swDone m ρ c))
      ⊢ iprop(accPts c (accAt m ρ c) ∗ bigSep Finset.univ fun k : Fin 7 => atPos ER (sendCell c k.succ) 1 ∅ 0) := by
  have h : bigSep Finset.univ (swDone m ρ c) = (iprop((bigSep Finset.univ fun k : Fin 7 => rowPts c (peer c (k.val + 1)) (accAt m ρ c))
      ∗ bigSep Finset.univ fun k : Fin 7 => atPos ER (sendCell c k.succ) 1 ∅ 0) : sProp 𝕄) := bigSep_sep _ _ _
  rw [h, accPts_rows, bigSep_self_others c]
  iintro ⟨H1, H2, H3⟩
  isplitr [H3]
  · isplitl [H1]; · iexact H1
    iexact H2
  iexact H3

/-- The staged arguments. -/
def args (c : Dev nD) : sProp 𝕄 :=
  iprop(holds c cc0_stg0_0 (xstg m ρ c) ∗ holds c cc0_stg1_0 (rwstg m ρ c) ∗ holds c cc0_stg2_0 (idxstg m ρ c) ∗ holds c cc0_stg3_0 (ewstg m ρ c)
    ∗ holds c cc0_stg4_0 (swstg m ρ c))

set_option maxHeartbeats 1600000 in
/-- The body, its parts in program order. -/
theorem sound_body (Kt : PUnit → sProp 𝕄) :
    iprop((records m ρ K ∗ levAts L lv ∗ laidOut m ρ c ∗ owe c (O₀ c) ∗ args m ρ c ∗ ∃ f, holds (F := F) c cc0_stg5_0 f)
        ∗ ((Φ₁ m ρ c ∗ owe c 0 ∗ args m ρ c ∗ holds c cc0_stg5_0 (outAt m ρ c)) -∗ Kt ⟨⟩))
      ⊢ wp frame (wpE (defs₀ (F := F)) 𝒱₀ (c : Thread nD τ) none) Set.univ (staged (cc0_body (F := F))) Kt := by
  unfold staged; rw [cc0_body_eq_skeleton]; unfold cc0_body_skel
  simp only [wp_bind]
  unfold laidOut args
  iintro ⟨⟨#HR, #Hlev, ⟨HB, HL0, HA, ⟨CB, PB⟩, ⟨TS, TR⟩, HRW, PS, TF, ⟨CF, PF⟩, PS0, PR0⟩, HO, ⟨Hx, Hrw, Hidx, Hew, Hsw⟩, Hout⟩, Hk⟩
  iapply (part1 m ρ K c) $$ [HB HO]
  · isplitr; · iexact HR
    unfold barSt
    isplitl [HO]; · iexact HO
    iexact HB
  iintro %v30 %w1 %v31 H
  try dsimp only
  iapply (part2 m ρ K c) $$ [H]
  · isplitr; · iexact HR
    iexact H
  iintro %x2 H
  try dsimp only
  iapply (part3 m ρ K c) $$ [H CB PB]
  · isplitr; · iexact HR
    isplitr; · iexact Hlev
    isplitl [CB]; · iexact CB
    isplitl [PB]; · iexact PB
    iexact H
  iintro ⟨HO, PB, Hpay⟩
  iapply (part4 m ρ c) $$ [Hx Hrw Hidx Hew]
  · isplitl [Hx]; · iexact Hx
    isplitl [Hrw]; · iexact Hrw
    isplitl [Hidx]; · iexact Hidx
    iexact Hew
  iintro ⟨Hx, Hrw, Hidx, Hew⟩
  try dsimp only
  iapply (part5 m ρ K c) $$ [Hew HA HO Hpay TS TR]
  · isplitr; · iexact HR
    isplitl [Hew]; · iexact Hew
    isplitl [HA]; · iexact HA
    isplitl [HO]; · iexact HO
    isplitl [Hpay]; · iexact Hpay
    isplitl [TS]; · iexact TS
    iexact TR
  iintro %x5 ⟨Hew, Hown, H⟩
  try dsimp only
  iapply (part6 m ρ K c) $$ [H]
  · isplitr; · iexact HR
    iexact H
  iintro H
  iapply (part7 m ρ K c) $$ [H]
  · isplitr; · iexact HR
    iexact H
  iintro %x7 H
  try dsimp only
  iapply (part8 m ρ K c) $$ [H]
  · isplitr; · iexact HR
    iexact H
  iintro %x8 H
  try dsimp only
  iapply (part9 m ρ K c) $$ [H Hown HL0 Hx Hsw]
  · isplitr; · iexact HR
    isplitl [H]; · iexact H
    isplitl [Hown]; · iexact Hown
    isplitl [HL0]; · iexact HL0
    isplitl [Hx]; · iexact Hx
    iexact Hsw
  iintro %x9 %y9 ⟨H, Hown, HL0, Hx, Hsw⟩
  try dsimp only
  unfold copySt; rw [mix_all]
  icases H with ⟨HO, CS⟩
  iapply (part10 m ρ K c) $$ [HO HRW]
  · isplitr; · iexact HR
    isplitr; · iexact Hlev
    unfold rwSt
    isplitl [HO]; · iexact HO
    iexact HRW
  iintro H
  iapply (part11 m ρ K c) $$ [H]
  · isplitr; · iexact HR
    isplitr; · iexact Hlev
    iexact H
  iintro H
  iapply (part12 m ρ K c) $$ [H]
  · isplitr; · iexact HR
    isplitr; · iexact Hlev
    iexact H
  iintro H
  iapply (part13 m ρ K c) $$ [H HL0 Hout]
  · isplitr; · iexact HR
    isplitr; · iexact Hlev
    isplitl [H]; · iexact H
    isplitl [HL0]; · iexact HL0
    iexact Hout
  iintro ⟨HO, HL, PR, Hout⟩
  iapply (part14 m ρ K c) $$ [HO CS PS]
  · isplitr; · iexact HR
    isplitr; · iexact Hlev
    unfold swSt; rw [mix_zero]
    isplitl [HO]; · iexact HO
    iapply (show iprop((bigSep Finset.univ fun k : Fin 7 => cred (tallyAt (sendCell c k.succ) () N)) ∗ bigSep Finset.univ fun k : Fin 7 => atPos ER (sendCell c k.succ) 0 ∅ 0)
      ⊢ (bigSep Finset.univ (swItem c) : sProp 𝕄) from Entails.of_eq (bigSep_sep _ _ _).symm)
    isplitl [CS]; · iexact CS
    iexact PS
  iintro H
  iapply (part15 m ρ K c) $$ [H TF]
  · isplitr; · iexact HR
    isplitr; · iexact Hlev
    isplitl [H]; · iexact H
    iexact TF
  iintro %x15 ⟨Hd, H⟩
  try dsimp only
  iapply (part16 m ρ K c) $$ [H]
  · isplitr; · iexact HR
    iexact H
  iintro %x16 H
  try dsimp only
  iapply (part17 m ρ K c) $$ [H]
  · isplitr; · iexact HR
    iexact H
  iintro %x17 H
  try dsimp only
  simp only [semSignalWord, semWaitWord]
  iapply (fin_step m ρ K c 6 (by decide) (dev21_eq c) (by decide)) $$ [H]
  · isplitr; · iexact HR
    iexact H
  iintro H
  rw [wp_ret]; imodintro
  unfold finSt
  icases H with ⟨HO, -⟩
  iapply (fin_wait m ρ K c (by decide)) $$ [HO CF PF]
  · isplitr; · iexact HR
    isplitl [CF]; · iexact CF
    isplitl [PF]; · iexact PF
    iexact HO
  iintro ⟨HO, PF⟩
  rw [wp_ret]; imodintro
  ihave Hj := (acc_join m ρ c) $$ [Hown Hd]
  · isplitl [Hown]; · iexact Hown
    iexact Hd
  icases Hj with ⟨HA, PS⟩
  imod ((sep_mono_right (end_positions c)).trans (close_all m ρ K c)) $$ [PB PF PS0 PS PR0 PR] with Hz
  · isplitr; · iexact HR
    isplitl [PB]; · iexact PB
    isplitl [PF]; · iexact PF
    isplitl [PS0 PS]
    · isplitl [PS0]; · iexact PS0
      iexact PS
    isplitl [PR0]; · iexact PR0
    iexact PR
  rw [wp_pure]; imodintro
  iapply Hk
  unfold Φ₁ landPts
  isplitl [HA HL Hz]
  · isplitl [HA]; · iexact HA
    isplitl [HL]; · iexact HL
    iexact Hz
  isplitl [HO]; · iexact HO
  isplitr [Hout]
  · isplitl [Hx]; · iexact Hx
    isplitl [Hrw]; · iexact Hrw
    isplitl [Hidx]; · iexact Hidx
    isplitl [Hew]; · iexact Hew
    iexact Hsw
  iexact Hout

/-! ## Each argument window fetches its whole array -/

theorem whole_fetched0 (d) : (dats (F := F) m ρ 0 c).fetched (0 : Fin 6) t₀ d = xstg m ρ c := by
  have h : (dats (F := F) m ρ 0 c).fetched (0 : Fin 6) t₀ d = (win0_0.blk t₀).view.read (Elt F) (xstg m ρ c) :=
    (dats (F := F) m ρ 0 c).cut_fetched (0 : Fin 6) t₀ d
  exact h.trans (Memref.read_access_unit_zero (Elt F) main_arg0 (funext fun a => Nat.zero_mul _) _ _)
theorem whole_fetched1 (d) : (dats (F := F) m ρ 0 c).fetched (1 : Fin 6) t₀ d = rwstg m ρ c := by
  have h : (dats (F := F) m ρ 0 c).fetched (1 : Fin 6) t₀ d = (win0_1.blk t₀).view.read (Elt F) (rwstg m ρ c) :=
    (dats (F := F) m ρ 0 c).cut_fetched (1 : Fin 6) t₀ d
  exact h.trans (Memref.read_access_unit_zero (Elt F) main_arg1 (funext fun a => Nat.zero_mul _) _ _)
theorem whole_fetched2 (d) : (dats (F := F) m ρ 0 c).fetched (2 : Fin 6) t₀ d = idxstg m ρ c := by
  have h : (dats (F := F) m ρ 0 c).fetched (2 : Fin 6) t₀ d = (win0_2.blk t₀).view.read (Elt F) (idxstg m ρ c) :=
    (dats (F := F) m ρ 0 c).cut_fetched (2 : Fin 6) t₀ d
  exact h.trans (Memref.read_access_unit_zero (Elt F) main_arg2 (funext fun a => Nat.zero_mul _) _ _)
theorem whole_fetched3 (d) : (dats (F := F) m ρ 0 c).fetched (3 : Fin 6) t₀ d = ewstg m ρ c := by
  have h : (dats (F := F) m ρ 0 c).fetched (3 : Fin 6) t₀ d = (win0_3.blk t₀).view.read (Elt F) (ewstg m ρ c) :=
    (dats (F := F) m ρ 0 c).cut_fetched (3 : Fin 6) t₀ d
  exact h.trans (Memref.read_access_unit_zero (Elt F) main_arg3 (funext fun a => Nat.zero_mul _) _ _)
theorem whole_fetched4 (d) : (dats (F := F) m ρ 0 c).fetched (4 : Fin 6) t₀ d = swstg m ρ c := by
  have h : (dats (F := F) m ρ 0 c).fetched (4 : Fin 6) t₀ d = (win0_4.blk t₀).view.read (Elt F) (swstg m ρ c) :=
    (dats (F := F) m ρ 0 c).cut_fetched (4 : Fin 6) t₀ d
  exact h.trans (Memref.read_access_unit_zero (Elt F) main_arg4 (funext fun a => Nat.zero_mul _) _ _)

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m ρ c ∗ (dats m ρ 0 c).owesAt () t₀.succ
    ∗ stg c cc0_stg0_0 (xstg m ρ c) ∗ stg c cc0_stg1_0 (rwstg m ρ c) ∗ stg c cc0_stg2_0 (idxstg m ρ c) ∗ stg c cc0_stg3_0 (ewstg m ρ c) ∗ stg c cc0_stg4_0 (swstg m ρ c) ∗ stg c cc0_stg5_0 (outAt m ρ c))

set_option maxRecDepth 4000 in
/-- The library's obligation on the body, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (staged (cc0_body (F := F))) (fun _ => bodyPost m ρ c)
  unfold bodyPre Φ₀ start ghost
  iintro ⟨⟨⟨⟨%K, ⟨#HR, Hat, Htk⟩⟩, Hcr, #Hlev⟩, HA, HL⟩, Ho, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, %hg5, H5⟩⟩
  have h0 : g0 = xstg m ρ c := by
    rw [hg0]; unfold Dat.before; rw [if_pos (fetch0_0 t₀)]; exact whole_fetched0 m ρ c d0
  have h1 : g1 = rwstg m ρ c := by
    rw [hg1]; unfold Dat.before; rw [if_pos (fetch0_1 t₀)]; exact whole_fetched1 m ρ c d1
  have h2 : g2 = idxstg m ρ c := by
    rw [hg2]; unfold Dat.before; rw [if_pos (fetch0_2 t₀)]; exact whole_fetched2 m ρ c d2
  have h3 : g3 = ewstg m ρ c := by
    rw [hg3]; unfold Dat.before; rw [if_pos (fetch0_3 t₀)]; exact whole_fetched3 m ρ c d3
  have h4 : g4 = swstg m ρ c := by
    rw [hg4]; unfold Dat.before; rw [if_pos (fetch0_4 t₀)]; exact whole_fetched4 m ρ c d4
  subst h0 h1 h2 h3 h4
  ihave Hlay := (lay_out m ρ c) $$ [Hat Htk Hcr HA HL]
  · isplitl [Hat]; · iexact Hat
    isplitl [Htk]; · iexact Htk
    isplitl [Hcr]; · iexact Hcr
    isplitl [HA]; · iexact HA
    iexact HL
  unfold Dat.owesAt Pipeline.owesWithin
  icases Ho with ⟨%W, %hW, HO⟩
  rw [show (dats m ρ 0 c).owed t₀.castSucc = O₀ c from rfl]
  iapply (sound_body m ρ K c fun _ => bodyPost m ρ c)
  isplitl
  · isplitr; · iexact HR
    isplitr; · iexact Hlev
    isplitl [Hlay]; · iexact Hlay
    isplitl [HO]; · unfold owe; iexists W; iexact HO
    unfold args
    isplitr [H5]
    · isplitl [H0]; · iexact H0
      isplitl [H1]; · iexact H1
      isplitl [H2]; · iexact H2
      isplitl [H3]; · iexact H3
      iexact H4
    iexists g5; iexact H5
  unfold args bodyPost owe Dat.owesAt Pipeline.owesWithin
  rw [show (dats m ρ 0 c).owed t₀.succ = 0 from rfl]
  iintro ⟨HΦ, ⟨%W', HO⟩, ⟨H0, H1, H2, H3, H4⟩, H5⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

end Cert.MoeProof

end
-- ==== Proof.Run.lean ====
module

public import proofs.«01_k».proof.Proof.Whole
public import Idealize.ShloMosaic.Lib.Pipeline.CollectiveSegs

/-!
# The launch and the run of the kernel

The exchange's ghost state is minted with every duty token already in the hands of the device that pays it. One global
step puts every cell of every device under its invariant; the credit of the launch is what the devices owe each cell.
-/

@[expose] public section

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 18 → GSem nD τ sig) := by
  rintro ⟨c, i⟩ ⟨c', i'⟩ h
  exact Prod.ext (congrArg (fun g : GSem nD τ sig => g.1.1) h) (csem_injective (congrArg Prod.snd h))
def allCells : Finset (GSem nD τ sig) := Finset.univ.map ⟨kcell, kcell_injective⟩

/-- The four tokens a device pays with at a step, as (cell, round, duty). -/
abbrev tokOf (x : (Dev nD × Fin 7) × Fin 4) : GSem nD τ sig × ℕ × Fin 8 := match x.2 with
  | 0 => (barCell (peer x.1.1 (x.1.2.val + 1)), 0, x.1.1)
  | 1 => (recvCell (peer x.1.1 (x.1.2.val + 1)) x.1.1, 0, 0)
  | 2 => (finCell (peer x.1.1 (x.1.2.val + 1)), 0, x.1.1)
  | 3 => (sendCell x.1.1 x.1.2.succ, 0, 0)

theorem recvS_inj {a b : Fin 8} (h : (SemLoc.dma (recvS a) : SemLoc sig) = .dma (recvS b)) : a = b := by revert a b; decide
theorem sendS_inj {a b : Fin 8} (h : (SemLoc.dma (sendS a) : SemLoc sig) = .dma (sendS b)) : a = b := by revert a b; decide
theorem step_inj {c : Dev nD} {k l : Fin 7} (h : peer c (k.val + 1) = peer c (l.val + 1)) : k = l :=
  Fin.succ_injective _ (peer_inj (c := c) (k := k.succ) (l := l.succ) h)

/-- Which of the four a token is, read off its cell. -/
theorem lv_tok (x : (Dev nD × Fin 7) × Fin 4) : lv (tokOf x).1 () = (![1, 2, 3, 0] : Fin 4 → ℕ) x.2 := by
  obtain ⟨⟨c, k⟩, a⟩ := x
  fin_cases a
  · exact lv_bar _
  · exact lv_recv _ _
  · exact lv_fin _
  · exact if_neg (by show ¬ 14 ≤ 6 + k.succ.val; have := k.isLt; rw [Fin.val_succ]; omega)

theorem kinds_inj {a b : Fin 4} (h : (![1, 2, 3, 0] : Fin 4 → ℕ) a = (![1, 2, 3, 0] : Fin 4 → ℕ) b) : a = b := by revert a b; decide

theorem tokOf_injective : Function.Injective (tokOf : (Dev nD × Fin 7) × Fin 4 → GSem nD τ sig × ℕ × Fin 8) := by
  rintro ⟨⟨c, k⟩, a⟩ ⟨⟨c', k'⟩, a'⟩ h
  have ha : a = a' := by
    have hl := lv_tok ((c, k), a)
    rw [h, lv_tok ((c', k'), a')] at hl
    exact (kinds_inj hl).symm
  subst ha
  have hd : (tokOf ((c, k), a)).1.1.1 = (tokOf ((c', k'), a)).1.1.1 := congrArg (fun x : GSem nD τ sig × ℕ × Fin 8 => x.1.1.1) h
  have hs : (tokOf ((c, k), a)).1.2 = (tokOf ((c', k'), a)).1.2 := congrArg (fun x : GSem nD τ sig × ℕ × Fin 8 => x.1.2) h
  have hu : (tokOf ((c, k), a)).2.2 = (tokOf ((c', k'), a)).2.2 := congrArg (fun x : GSem nD τ sig × ℕ × Fin 8 => x.2.2) h
  have : c = c' ∧ k = k' := by
    fin_cases a
    · have hc : c = c' := hu
      subst hc; exact ⟨rfl, step_inj hd⟩
    · have hc : c = c' := recvS_inj hs
      subst hc; exact ⟨rfl, step_inj hd⟩
    · have hc : c = c' := hu
      subst hc; exact ⟨rfl, step_inj hd⟩
    · exact ⟨hd, Fin.succ_injective _ (sendS_inj hs)⟩
  rw [this.1, this.2]
def allToks : Finset (GSem nD τ sig × ℕ × Fin 8) := Finset.univ.map ⟨tokOf, tokOf_injective⟩

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun i : Fin 18 => roundState ER (Rd m ρ) (kcell (c, i)) 0)
    ∗ (bigSep Finset.univ fun i : Fin 18 => iprop(atPos ER (kcell (c, i)) 0 ∅ 0 ∗ reached ER (kcell (c, i)) 0)) ∗ bigSep Finset.univ fun k : Fin 7 => toks c k)

/-- What the global step makes of it. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem over_cells (Φ : GSem nD τ sig → sProp 𝕄) :
    bigSep allCells Φ = bigSep Finset.univ fun c : Dev nD => bigSep Finset.univ fun i : Fin 18 => Φ (kcell (c, i)) := by
  unfold allCells; rw [bigSep_map, bigSep_univ_prod]; rfl
omit [FloatOps F] in
theorem over_toks : bigSep allToks (fun x => (dutyTok ER x.1 x.2.1 x.2.2 : sProp 𝕄))
    = bigSep Finset.univ fun c : Dev nD => bigSep Finset.univ fun k : Fin 7 => toks c k := by
  unfold allToks; rw [bigSep_map, bigSep_univ_prod, bigSep_univ_prod]
  exact bigSep_congr fun c _ => bigSep_congr fun k _ => by unfold toks; rw [bigSep_fin4]; rfl

theorem fund_exchange : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst' := (Entails.of_eq (over_cells fun g => roundState ER (Rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores of a device -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier's counter and the kernel's own seventeen are the device's eighteen cells. -/
theorem sems0_eq (c : Dev nD) :
    (bigSep Finset.univ fun i : Fin 18 => semVal (kcell (c, i)) 0 : sProp 𝕄)
      = iprop(unscopedSems0 c ∗ Pipeline.ownSems0 (Ix := Unit) (Name := ℕ) (U := UU) (Lvl := ℕ) (Val := Elt F) (τ := τ) osem c) := by
  rw [unscopedSems0_eq]
  unfold Pipeline.ownSems0
  rw [Fin.univ_succ, Finset.cons_eq_insert, bigSep_insert (by simp), bigSep_map]
  have h : (bigSep Finset.univ fun i : Fin 17 => semVal (kcell (c, i.succ)) 0 : sProp 𝕄) = bigSep Finset.univ fun i : Fin 17 => semVal ((c : Thread nD τ), osem i) 0 :=
    bigSep_congr fun i _ => by show semVal ((c : Thread nD τ), csem i.succ) 0 = _; rw [csem_succ]
  exact congrArg (fun X : sProp 𝕄 => iprop(semVal (barCell c) 0 ∗ X)) h

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ bigSep Finset.univ fun k : Fin 7 => toks c k) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : Fin 18 => semVal (kcell (c, i)) 0) ∗ bigSep Finset.univ fun i : Fin 18 => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` beside the records. -/
def linear (c : Dev nD) : sProp 𝕄 :=
  iprop((bigSep Finset.univ fun i : Fin 18 => atPos ER (kcell (c, i)) 0 ∅ 0) ∗ bigSep Finset.univ fun k : Fin 7 => toks c k)

theorem ghost_intro (K : Dev nD × Fin 18 → ℕ) (c : Dev nD) : iprop(records m ρ K ∗ linear c) ⊢ G' m ρ c := by
  unfold linear G' ghost
  iintro ⟨HR, HL⟩
  iexists K
  isplitl [HR]; · iexact HR
  iexact HL

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ bigSep Finset.univ fun k : Fin 7 => toks c k) : sProp 𝕄)
      ⊢ bigSep Finset.univ (G' m ρ) := by
  rw [bigSep_sep', bigSep_sep', ← bigSep_univ_prod (fun ci : Dev nD × Fin 18 => iprop(∃ κ : ℕ, cellInv ER (Rd m ρ) κ (kcell ci))),
    bigSep_congr (s := Finset.univ) (fun (c : Dev nD) _ => bigSep_sep' Finset.univ (fun i : Fin 18 => (atPos ER (kcell (c, i)) 0 ∅ 0 : sProp 𝕄)) (fun i => reached ER (kcell (c, i)) 0)),
    bigSep_sep', ← bigSep_univ_prod (fun ci : Dev nD × Fin 18 => (reached ER (kcell ci) 0 : sProp 𝕄))]
  iintro ⟨HI, ⟨Hat, #HR⟩, Htok⟩
  ihave HK := (BI.bigSep_exists_pi Finset.univ (fun (ci : Dev nD × Fin 18) (κ : ℕ) => (cellInv ER (Rd m ρ) κ (kcell ci) : sProp 𝕄))) $$ HI
  icases HK with ⟨%K, #HI⟩
  iapply (bigSep_with_persistent (R := records m ρ K) fun c _ => ghost_intro m ρ K c)
  isplitr
  · unfold records; isplitl; · iexact HI
    iexact HR
  · unfold linear
    iapply (Entails.of_eq (bigSep_sep' Finset.univ (fun c : Dev nD => bigSep Finset.univ fun i : Fin 18 => (atPos ER (kcell (c, i)) 0 ∅ 0 : sProp 𝕄))
      (fun c => bigSep Finset.univ fun k : Fin 7 => toks c k)).symm)
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the devices owe a cell -/

/-- What device `d` owes a cell: a unit for every barrier and exit cell of another device, a block for every receive cell for `d`. -/
theorem owed_eq (d : Dev nD) (g : GSem nD τ sig) :
    O₀ d g () = (∑ k ∈ Finset.range 7, if g = finCell (peer d (7 - k)) then 1 else 0)
      + (∑ k ∈ Finset.range 7, if g = recvCell (peer d (7 - k)) d then N else 0)
      + ∑ k ∈ Finset.range 7, if g = barCell (peer d (7 - k)) then 1 else 0 := by
  have h1 : ∀ n, owFin d n g () = ∑ k ∈ Finset.range n, if g = finCell (peer d (7 - k)) then 1 else 0 := fun n => by
    induction n with
    | zero => rfl
    | succ n ih => rw [owFin, Pi.add_apply, Finsupp.add_apply, ih, Finset.sum_range_succ, tallyAt_apply]; simp only [and_true]
  have h2 : ∀ n, owRecv d n g () = owFin d 7 g () + ∑ k ∈ Finset.range n, if g = recvCell (peer d (7 - k)) d then N else 0 := fun n => by
    induction n with
    | zero => rfl
    | succ n ih => rw [owRecv, Pi.add_apply, Finsupp.add_apply, ih, Finset.sum_range_succ, tallyAt_apply, add_assoc]; simp only [and_true]
  have h3 : ∀ n, owBar d n g () = owRecv d 7 g () + ∑ k ∈ Finset.range n, if g = barCell (peer d (7 - k)) then 1 else 0 := fun n => by
    induction n with
    | zero => rfl
    | succ n ih => rw [owBar, Pi.add_apply, Finsupp.add_apply, ih, Finset.sum_range_succ, tallyAt_apply, add_assoc]; simp only [and_true]
  rw [h3, h2, h1]

theorem count_others (c : Dev nD) : (∑ d : Dev nD, ∑ k ∈ Finset.range 7, if c = peer d (7 - k) then 1 else 0) = 7 := by revert c; decide
theorem count_pair (c s : Dev nD) (h : s ≠ c) : (∑ d : Dev nD, ∑ k ∈ Finset.range 7, if c = peer d (7 - k) ∧ s = d then 1 else 0) = 1 := by revert c s; decide

theorem cell_iff {sm sm' : SemLoc sig} {a b : Dev nD} : Iff ((((a : Thread nD τ), sm) : GSem nD τ sig) = ((b : Thread nD τ), sm')) (a = b ∧ sm = sm') :=
  ⟨fun h => ⟨congrArg (fun g : GSem nD τ sig => g.1.1) h, congrArg Prod.snd h⟩, fun h => by rw [h.1, h.2]⟩

theorem recv_iff {s s' : Fin 8} : Iff ((SemLoc.dma (recvS s) : SemLoc sig) = .dma (recvS s')) (s = s') := ⟨recvS_inj, fun h => by rw [h]⟩

theorem owed_bar (c : Dev nD) : ∑ d : Dev nD, O₀ d (barCell c) () = 7 := by
  rw [← count_others c]
  refine Finset.sum_congr rfl fun d _ => ?_
  rw [owed_eq]
  simp only [cell_iff, reduceCtorEq, and_false, if_false, Finset.sum_const_zero, Nat.zero_add, and_true, SemLoc.reg.injEq, fin_ne_bar.symm]
theorem owed_fin (c : Dev nD) : ∑ d : Dev nD, O₀ d (finCell c) () = 7 := by
  rw [← count_others c]
  refine Finset.sum_congr rfl fun d _ => ?_
  rw [owed_eq]
  simp only [cell_iff, reduceCtorEq, and_false, if_false, Finset.sum_const_zero, Nat.add_zero, and_true, SemLoc.reg.injEq, fin_ne_bar]
theorem owed_recv (c s : Dev nD) (h : s ≠ c) : ∑ d : Dev nD, O₀ d (recvCell c s) () = N := by
  rw [← Nat.one_mul N, ← count_pair c s h, Finset.sum_mul]
  refine Finset.sum_congr rfl fun d _ => ?_
  rw [owed_eq, Finset.sum_mul]
  simp only [cell_iff, reduceCtorEq, and_false, if_false, Finset.sum_const_zero, Nat.add_zero, Nat.zero_add, recv_iff, ite_mul, Nat.one_mul, Nat.zero_mul]

theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds_intro (c : Dev nD) : (Pipeline.launchCred O₀ c : sProp 𝕄) ⊢ creds c := by
  unfold Pipeline.launchCred
  refine (bigSep_subset (Finset.subset_univ (Finset.univ.map ⟨csem, csem_injective⟩))).trans ?_
  rw [bigSep_map]
  show (bigSep Finset.univ fun i : Fin 18 => cred (tallyOn (kcell (c, i)) (launchCredit (Pipeline.owing O₀) 0 (kcell (c, i)))) : sProp 𝕄) ⊢ creds c
  rw [cells_split c]
  simp only [kcell_bar, kcell_fin, kcell_recv]
  rw [launch_cell _ 7 (owed_bar c), launch_cell _ 7 (owed_fin c)]
  have h : (bigSep Finset.univ fun k : Fin 7 => cred (tallyOn (recvCell c (peer c (k.val + 1))) (launchCredit (Pipeline.owing O₀) 0 (recvCell c (peer c (k.val + 1))))) : sProp 𝕄)
      = bigSep Finset.univ fun k : Fin 7 => cred (tallyAt (recvCell c (peer c (k.val + 1))) () N) :=
    bigSep_congr fun k _ => by rw [launch_cell _ N (owed_recv c _ (self_ne_peer c k.val k.isLt).symm)]
  rw [h]
  unfold creds
  iintro ⟨HB, HF, -, -, HR⟩
  isplitl [HB]; · iexact HB
  isplitl [HR]; · iexact HR
  iexact HF

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ accPts landPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁ accPts landPts
  iintro ⟨HA, HL, Hz⟩
  ihave Hz := (Entails.of_eq (sems0_eq (F := F) c)) $$ Hz
  icases Hz with ⟨Hu, Ho⟩
  isplitl [Hu]; · iexact Hu
  isplitl [Ho]; · iexact Ho
  isplitl [HA]
  · iexists _; iexact HA
  iexists _; iexact HL

theorem lv_stage (w : Fin 6) (s : Fin (spec0 w).nbuf) : lv (((0 : Dev nD) : Thread nD τ), .dma ((spec0 w).sem s)) () ≤ 0 := by
  revert w s; decide

theorem waits (c : Dev nD) : (levAts L lv : sProp 𝕄) ⊢ Pipeline.cellsWaits cfgs (dats m ρ) () 0 c :=
  Pipeline.cellsWaits_intro cfgs (dats m ρ) () 0 c fun w s t =>
    mayWait_of 0 (lv_stage w s) (by
      rcases t with ⟨_ | _, ht⟩
      · exact above_bar c 7
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the eight devices terminates, with each window's
    array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeProof

end
-- ==== Proof.Frames.lean ====
module

public import proofs.«01_k».proof.Proof.Run
public import proofs.«01_k».proof.Defs
public import proofs.«01_k».proof.Proof.Gen.Kernel
public import proofs.«01_k».proof.Proof.Gen.ReferenceIdeal.Run

/-!
# What the arrays hold at the end, and the frames

The launch runs at one grid point, so an argument's array is never written, and the result's array is written once, with
all of what the body left in its staging buffer.
-/

@[expose] public section

noncomputable section

namespace Cert.MoeProof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg) (c : Dev nD)

theorem finalA_0 : finalA m ρ c (0 : Fin 6) = xstg m ρ c := (dats m ρ 0 c).arrAt_in (0 : Fin 6) rfl _
theorem finalA_1 : finalA m ρ c (1 : Fin 6) = rwstg m ρ c := (dats m ρ 0 c).arrAt_in (1 : Fin 6) rfl _
theorem finalA_2 : finalA m ρ c (2 : Fin 6) = idxstg m ρ c := (dats m ρ 0 c).arrAt_in (2 : Fin 6) rfl _
theorem finalA_3 : finalA m ρ c (3 : Fin 6) = ewstg m ρ c := (dats m ρ 0 c).arrAt_in (3 : Fin 6) rfl _
theorem finalA_4 : finalA m ρ c (4 : Fin 6) = swstg m ρ c := (dats m ρ 0 c).arrAt_in (4 : Fin 6) rfl _

/-- The result's array ends holding the sum the device formed. -/
theorem finalA_5 : finalA m ρ c (5 : Fin 6) = outAt m ρ c := by
  have h : finalA m ρ c (5 : Fin 6) = (win0_5.blk t₀).view.write (Elt F)
      ((dats (F := F) m ρ 0 c).arrAt (5 : Fin 6) t₀) ((dats (F := F) m ρ 0 c).flushed (5 : Fin 6) t₀) Finset.univ := by
    refine ((dats (F := F) m ρ 0 c).arrAt_succ (5 : Fin 6) t₀).trans ?_
    rw [flush0_5 t₀, if_pos rfl]
  have h2 : (win0_5.blk t₀).view.read (Elt F) (finalA m ρ c (5 : Fin 6)) = outAt m ρ c := by
    rw [h, View.read_write_univ]
    rfl
  exact (Memref.read_access_unit_zero (Elt F) main_v1 (funext fun a => Nat.zero_mul _) _ _).symm.trans h2

/-- The run, with each array named. -/
theorem run_named : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => ⟨(h.1 c (5 : Fin 6)).trans (finalA_5 m ρ c), (h.1 c (0 : Fin 6)).trans (finalA_0 m ρ c),
    (h.1 c (1 : Fin 6)).trans (finalA_1 m ρ c), (h.1 c (2 : Fin 6)).trans (finalA_2 m ρ c),
    (h.1 c (3 : Fin 6)).trans (finalA_3 m ρ c), (h.1 c (4 : Fin 6)).trans (finalA_4 m ρ c)⟩, h.2⟩) (run_main m ρ)

/-- The arguments end unchanged and every counter ends at zero, for any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h.1 c).2, h.2⟩) (run_named m ρ)

theorem frame_ideal : Cert.quiescent_KernelIdeal (hKernelIdeal := Cert.KernelIdeal.Gen.facts) :=
  fun m g _ => run_frame (F := Ideal) m g

/-- The kernel's table of bodies, as printed for bit patterns and for the ideal values: one table. -/
theorem defs₀_same : Cert.Kernel.defs₀ (F := F) = Cert.KernelIdeal.defs₀ (F := F) := by
  refine congrArg Defs.onTc ?_
  funext l a
  match l, a with
  | ⟨0, _⟩, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs (Cert.Kernel.pcfgs (F := F))) defs₀_same

/-- The kernel read at bit patterns is the same text, so the same run gives its frame. -/
theorem frame_kernel : Cert.quiescent_Kernel (hKernel := Cert.Kernel.Gen.facts) := by
  intro m g _
  rw [show Cert.Kernel.defs (F := Bits) = Cert.KernelIdeal.defs (F := Bits) from defs_same]
  exact run_frame (F := Bits) m g

theorem frame_ref : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

end Cert.MoeProof

end
-- ==== Proof.Probs.lean ====
module

public import proofs.«01_k».proof.Proof.Protocol
public import Idealize.ShloMosaic.Lib.KernelVsHost
public import Idealize.ShloMosaic.Lib.Pointwise

/-!
# The kernel's values at an index

The routing probabilities are kept as one array; what a device adds for a token is read at an index over them.
-/

@[expose] public section

noncomputable section

namespace Cert.MoeProof

open Cert.KernelIdeal Cert.KernelIdeal.Gen
open Idealize.ShloMosaic
open Idealize.ShloMosaic.TcCoe

/-- A choice by equality of two words is the choice by their equality. -/
theorem select_cmpi_eq {α : Type} (a b : BitVec 32) (x y : α) :
    Scalar.select (IntOp.cmpi .eq a b) x y = if a = b then x else y := by
  by_cases h : a = b
  · subst h
    simp [IntOp.cmpi, Scalar.select]
  · have h2 : IntOp.cmpi .eq a b = 0#1 := by
      show BitVec.ofBool (a == b) = 0#1
      rw [beq_eq_false_iff_ne.mpr h]
      rfl
    rw [h2, if_neg h]
    rfl

/-- Row `r` of device `c`'s block of the tokens. -/
def tokRow (c : Fin 8) (r : Fin 32) : Fin 256 := ⟨32 * c.val + r.val, by omega⟩

/-- The softmax of the router's scores, in the kernel's operations. -/
def probs (x : FVec Ideal S256x128 .bf16) (rw : FVec Ideal S128x16 .bf16) : FVec Ideal S256x16 .f32 :=
  let s : FVec Ideal S256x16 .f32 := matmul dot_S256x128_S128x16_S256x16_1_0_0_1_n_n none (shapeCast S256x128 x shapeCasts_S256x128_S256x128)
    (shapeCast S128x16 rw shapeCasts_S128x16_S128x16) (constant S256x16 .f32 0x00000000#32)
  let e : FVec Ideal S256x16 .f32 := exp (subf s (broadcastTo S256x16 (shapeCast S256x1
    (multiReduction .maximumf [1] S256 s 0xFF800000#32 reduces_S256x16_S256 (.inl rfl) rfl) shapeCasts_S256_S256x1) broadcasts_S256x1_S256x16))
  divf e (broadcastTo S256x16 (shapeCast S256x1
    (multiReduction .add [1] S256 e 0x00000000#32 reduces_S256x16_S256 (.inl rfl) rfl) shapeCasts_S256_S256x1) broadcasts_S256x1_S256x16)

theorem pay2_eq (x : FVec Ideal S256x128 .bf16) (rw : FVec Ideal S128x16 .bf16) (idx : IVec S256x1 32) :
    k0_pay2 x rw idx = shapeCast S256x1 (multiReduction .add [1] S256
      (select (cmpi .eq (broadcastTo S256x16 (shapeCast S256x1 idx shapeCasts_S256x1_S256x1) broadcasts_S256x1_S256x16)
        (iota .tc S256x16 32 [1] iota_S256x16_d1_w32)) (probs x rw) (broadcast S256x16 (Scalar.ofBits .f32 0x00000000#32 : Ideal .f32)))
      0x00000000#32 reduces_S256x16_S256 (.inl rfl) rfl) shapeCasts_S256_S256x1 := rfl

theorem pay2_apply (x : FVec Ideal S256x128 .bf16) (rw : FVec Ideal S128x16 .bf16) (idx : IVec S256x1 32) (r : Fin 256) :
    k0_pay2 x rw idx (ix2 r 0) = ∑ e : Fin 16, if idx (ix2 r 0) = BitVec.ofNat 32 e.val then probs x rw (ix2 r e) else 0 := by
  rw [pay2_eq]
  pointwise
  exact Finset.sum_congr rfl fun e _ => select_cmpi_eq _ _ _ _

variable (m : (ℓ : Loc nD τ sig) → Buf (Elt Ideal) ℓ) (ρ : Dev nD → PrngReg)

theorem word_lo : ∀ c : Dev nD, Scalar.addi (Scalar.muli (myW c) 2#32) 0#32 = BitVec.ofNat 32 (2 * c.val) := by decide
theorem word_hi : ∀ c : Dev nD, Scalar.addi (Scalar.muli (myW c) 2#32) 1#32 = BitVec.ofNat 32 (2 * c.val + 1) := by decide

/-- The arguments' entries on a device, as extended reals and words. -/
def xE (c : Dev nD) (r : Fin 256) (k : Fin 128) : EReal := xstg m ρ c (ix2 r k)
def eE (c : Dev nD) (j : Fin 2) (k : Fin 128) (o : Fin 256) : EReal := ewstg m ρ c (ix3 j k o)
def sE (c : Dev nD) (k : Fin 128) (o : Fin 256) : EReal := swstg m ρ c (ix2 k o)
def iE (c : Dev nD) (r : Fin 256) : BitVec 32 := idxstg m ρ c (ix2 r 0)
/-- The probability the kernel gives token `r`: that of the expert it chose. -/
def pE (c : Dev nD) (r : Fin 256) : EReal := k0_pay2 (xstg m ρ c) (rwstg m ρ c) (idxstg m ρ c) (ix2 r 0)
def aE (c : Dev nD) (r o : Fin 256) : EReal := accAt m ρ c (ix2 r o)

theorem w0_apply (c : Dev nD) (k : Fin 128) (o : Fin 256) : w0 m ρ c (ix3 0 k o) = eE m ρ c 0 k o := by
  refine congrArg (ewstg m ρ c) (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem w1_apply (c : Dev nD) (k : Fin 128) (o : Fin 256) : w1 m ρ c (ix3 0 k o) = eE m ρ c 1 k o := by
  refine congrArg (ewstg m ρ c) (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem xmine_apply (c : Dev nD) (r : Fin 32) (k : Fin 128) : xmine m ρ c (ix2 r k) = xE m ρ c (tokRow c r) k := by
  refine congrArg (xstg m ρ c) (funext fun a => Fin.ext ?_)
  have h := congrFun (k0_off6_eq c)
  match a with
  | ⟨0, _⟩ =>
    show k0_off6 c 0 + 1 * r.val = 32 * c.val + r.val
    rw [h]
    exact congrArg (32 * c.val + ·) (Nat.one_mul _)
  | ⟨1, _⟩ =>
    show k0_off6 c 1 + 1 * k.val = k.val
    rw [h]
    simp

/-- What device `c` adds to column `o` of token `r`: its first expert's product where the token chose it, and its
    second's where it chose that one. -/
theorem acc_apply (c : Dev nD) (r o : Fin 256) : aE m ρ c r o
    = (if iE m ρ c r = BitVec.ofNat 32 (2 * c.val) then pE m ρ c r * ∑ k : Fin 128, xE m ρ c r k * eE m ρ c 0 k o else 0)
      + (if iE m ρ c r = BitVec.ofNat 32 (2 * c.val + 1) then pE m ρ c r * ∑ k : Fin 128, xE m ρ c r k * eE m ρ c 1 k o else 0) := by
  unfold aE accAt
  pointwise [k0_pay6, k0_pay1, k0_pay3, k0_pay4, k0_pay5]
  rw [select_cmpi_eq, select_cmpi_eq, word_lo, word_hi]
  simp only [w0_apply, w1_apply]
  rfl

theorem out_apply (c : Dev nD) (r : Fin 32) (o : Fin 256) : outAt m ρ c (ix2 r o)
    = ∑ k : Fin 128, xE m ρ c (tokRow c r) k * sE m ρ c k o + ∑ s : Fin 8, aE m ρ s (tokRow c r) o := by
  unfold outAt
  pointwise [k0_pay8, k0_pay9, recvAll]
  simp only [xmine_apply]
  refine congrArg₂ (α := EReal) (β := EReal) (· + ·) rfl (Finset.sum_congr rfl fun s _ => ?_)
  exact congrArg (accAt m ρ s) (funext fun a => match a with | ⟨0, _⟩ => rfl | ⟨1, _⟩ => rfl)

end Cert.MoeProof

end
-- ==== Proof.RefValue.lean ====
module

public import proofs.«01_k».proof.Proof.Gen.ReferenceIdeal.Run
public import Idealize.ShloMosaic.Lib.KernelVsHost
public import Idealize.ShloMosaic.Lib.Pointwise

/-!
# The reference's value at an index

The reference's result is its shared product plus, for each token, the probability and the product of the expert it
chose, each masked to zero where the token's index names no expert.
-/

@[expose] public section

noncomputable section

namespace Cert.MoeRef

open Cert.ReferenceIdeal Cert.ReferenceIdeal.Gen
open Idealize.ShloMosaic
open Idealize.ShloMosaic.TcCoe

/-- The softmax of the router's scores, in the host's operations. -/
def hprobs (x : FVec Ideal S256x128 .bf16) (rw : FVec Ideal S128x16 .bf16) : FVec Ideal S256x16 .f32 :=
  let s : FVec Ideal S256x16 .f32 := Host.dotGeneral dot_S256x128_S128x16_S256x16_1_0_0_1_n_n none (extf .f32 x bitsLt_bf16_f32) (extf .f32 rw bitsLt_bf16_f32)
  let e : FVec Ideal S256x16 .f32 := Host.exp (subf s (broadcastInDim S256x16 ![0, 1] bcast_S256x1_S256x16_0_1 (broadcastInDim S256x1 ![0] bcast_S256_S256x1_0
    (Host.reduce FloatOps.maximumf s (constant S_ .f32 0xFF800000#32) reducesTo_S256x16_S256_d1 h_S_))))
  Host.divf e (broadcastInDim S256x16 ![0, 1] bcast_S256x1_S256x16_0_1 (broadcastInDim S256x1 ![0] bcast_S256_S256x1_0
    (Host.reduceAdd e (constant S_ .f32 0x00000000#32) reducesTo_S256x16_S256_d1 h_S_)))

/-- The chosen experts as one column, and beside the tokens' own numbers. -/
def col (idx : IVec S256x1 32) : IVec S256x1 32 := broadcastInDim S256x1 ![0] bcast_S256_S256x1_0 (shapeCast _ idx shapeCasts_S256x1_S256)
def pairs (idx : IVec S256x1 32) : IVec S256x2 32 :=
  concatenate S256x2 1 [⟨S256x1, broadcastInDim S256x1 ![0] bcast_S256_S256x1_0 (iotaInDim S256 32 0)⟩, ⟨S256x1, col idx⟩] concatenates_S256x1_S256x1_S256x2_d1

/-- The two masks: the index names an expert. -/
def mask2 (idx : IVec S256x1 32) : IVec S256 1 :=
  Host.reduce IntOp.andi (andi (cmpi .sge (pairs idx) (broadcastInDim S256x2 ![] bcast_S_S256x2 (constantI S_ 32 0#32)))
    (cmpi .sle (pairs idx) (broadcastInDim S256x2 ![0, 1] bcast_S1x2_S256x2_0_1 (broadcastInDim S1x2 ![1] bcast_S2_S1x2_1 (fun i => lit0 (S2.rowMajor i))))))
    (constantI S_ 1 1#1) reducesTo_S256x2_S256_d1 h_S_
def mask1 (idx : IVec S256x1 32) : IVec S256 1 :=
  Host.reduce IntOp.andi (andi (cmpi .sge (col idx) (broadcastInDim S256x1 ![] bcast_S_S256x1 (constantI S_ 32 0#32)))
    (cmpi .sle (col idx) (broadcastInDim S256x1 ![0, 1] bcast_S1x1_S256x1_0_1 (broadcastInDim S1x1 ![1] bcast_S1_S1x1_1 (constantI S1 32 15#32)))))
    (constantI S_ 1 1#1) reducesTo_S256x1_S256_d1 h_S_

/-- The probability of each token's expert, and the weights of each token's expert. -/
def chosen (x : FVec Ideal S256x128 .bf16) (rw : FVec Ideal S128x16 .bf16) (idx : IVec S256x1 32) : FVec Ideal S256 .f32 :=
  select (mask2 idx) (Host.gather gather_S256x16_S256x2_S256_n_01_n_n_01_1_11 (hprobs x rw) (pairs idx)) (broadcastInDim S256 ![] bcast_S_S256 (constant S_ .f32 0x00000000#32))
def weights (idx : IVec S256x1 32) (ew : FVec Ideal S16x128x256 .bf16) : FVec Ideal S256x128x256 .f32 :=
  select (broadcastInDim S256x128x256 ![0] bcast_S256_S256x128x256_0 (mask1 idx))
    (Host.gather gather_S16x128x256_S256x1_S256x128x256_12_0_n_n_0_1_1128256 (extf .f32 ew bitsLt_bf16_f32) (col idx))
    (broadcastInDim S256x128x256 ![] bcast_S_S256x128x256 (constant S_ .f32 0x00000000#32))

def refOut (x : FVec Ideal S256x128 .bf16) (rw : FVec Ideal S128x16 .bf16) (idx : IVec S256x1 32) (ew : FVec Ideal S16x128x256 .bf16)
    (sw : FVec Ideal S128x256 .bf16) : FVec Ideal S256x256 .f32 :=
  addf (Host.dotGeneral dot_S256x128_S128x256_S256x256_1_0_0_1_n_n none (extf .f32 x bitsLt_bf16_f32) (extf .f32 sw bitsLt_bf16_f32))
    (mulf (broadcastInDim S256x256 ![0, 1] bcast_S256x1_S256x256_0_1 (broadcastInDim S256x1 ![0] bcast_S256_S256x1_0 (chosen x rw idx)))
      (Host.dotGeneral dot_S256x128_S256x128x256_S256x256_1_1_n_2_0_0 none (extf .f32 x bitsLt_bf16_f32) (weights idx ew)))

theorem res_eq (m : (ℓ : Loc nD τ sig) → Buf (Elt Ideal) ℓ) (c : Dev nD) :
    Value.res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem col_apply (idx : IVec S256x1 32) (r : Fin 256) : col idx (ix2 r 0) = idx (ix2 r 0) := by
  unfold col
  pointwise
theorem pairs_0 (idx : IVec S256x1 32) (r : Fin 256) : pairs idx (ix2 r 0) = BitVec.ofNat 32 r.val := by
  unfold pairs
  pointwise
theorem pairs_1 (idx : IVec S256x1 32) (r : Fin 256) : pairs idx (ix2 r 1) = idx (ix2 r 0) := by
  unfold pairs
  pointwise [col_apply]

/-- A word between `0` and `n`, both read signed, is a number of at most `n`. -/
theorem between (w : BitVec 32) (n : Nat) (hn : n < 2 ^ 31) :
    IntOp.andi (IntOp.cmpi .sge w 0#32) (IntOp.cmpi .sle w (BitVec.ofNat 32 n)) = if w.toNat ≤ n then 1#1 else 0#1 := by
  have hw := w.isLt
  have e0 : (0#32).sle w = decide (w.toNat < 2 ^ 31) := by
    rw [BitVec.sle_eq_decide, decide_eq_decide, BitVec.toInt_eq_toNat_cond, BitVec.toInt_eq_toNat_cond]
    simp only [BitVec.toNat_ofNat]
    split <;> split <;> omega
  have e1 : w.sle (BitVec.ofNat 32 n) = decide (w.toNat ≤ n ∨ 2 ^ 31 ≤ w.toNat) := by
    rw [BitVec.sle_eq_decide, decide_eq_decide, BitVec.toInt_eq_toNat_cond, BitVec.toInt_eq_toNat_cond]
    simp only [BitVec.toNat_ofNat]
    split <;> split <;> omega
  show IntOp.andi (BitVec.ofBool ((0#32).sle w)) (BitVec.ofBool (w.sle (BitVec.ofNat 32 n))) = _
  rw [e0, e1]
  by_cases h : w.toNat ≤ n
  · rw [if_pos h, decide_eq_true (show w.toNat < 2 ^ 31 by omega), decide_eq_true (Or.inl h)]
    rfl
  · rw [if_neg h]
    by_cases h2 : w.toNat < 2 ^ 31
    · rw [decide_eq_true h2, decide_eq_false (show ¬(w.toNat ≤ n ∨ 2 ^ 31 ≤ w.toNat) by omega)]
      rfl
    · rw [decide_eq_false h2, decide_eq_true (show w.toNat ≤ n ∨ 2 ^ 31 ≤ w.toNat by omega)]
      rfl

theorem and_one : ∀ b : BitVec 1, IntOp.andi b 1#1 = b := by decide
theorem one_and : ∀ b : BitVec 1, IntOp.andi 1#1 b = b := by decide

theorem mask1_apply (idx : IVec S256x1 32) (r : Fin 256) : mask1 idx (ix1 r) = if (idx (ix2 r 0)).toNat ≤ 15 then 1#1 else 0#1 := by
  unfold mask1
  pointwise
  rw [Finset.univ_unique, Finset.fold_singleton, and_one]
  exact (congrArg (fun w => IntOp.andi (IntOp.cmpi .sge w 0#32) (IntOp.cmpi .sle w 15#32)) (col_apply idx r)).trans
    (between _ 15 (by decide))

theorem mask2_apply (idx : IVec S256x1 32) (r : Fin 256) : mask2 idx (ix1 r) = if (idx (ix2 r 0)).toNat ≤ 15 then 1#1 else 0#1 := by
  unfold mask2
  pointwise
  rw [show (Finset.univ : Finset (Fin 2)) = {0, 1} from rfl, Finset.fold_insert (by decide), Finset.fold_singleton, and_one,
    pairs_0, pairs_1, show lit0 (S2.rowMajor (ix1 0)) = BitVec.ofNat 32 255 from rfl,
    show lit0 (S2.rowMajor (ix1 1)) = BitVec.ofNat 32 15 from rfl, between _ 255 (by decide), between _ 15 (by decide)]
  rw [if_pos (by rw [BitVec.toNat_ofNat]; omega), one_and]

/-- The number a small word is, read signed and held under a bound. -/
theorem clamp_small (w : BitVec 32) (n : Nat) (h : w.toNat ≤ n) (hn : n < 2 ^ 31) : min w.toInt.toNat n = w.toNat := by
  rw [BitVec.toInt_eq_toNat_cond, if_pos (by omega)]
  omega

/-- The probabilities taken at (token, expert) pairs. -/
theorem take_pair (p : FVec Ideal S256x16 .f32) (idx : IVec S256x1 32) (r : Fin 256) (h : (idx (ix2 r 0)).toNat ≤ 15) :
    Host.gather gather_S256x16_S256x2_S256_n_01_n_n_01_1_11 p (pairs idx) (ix1 r) = p (ix2 r ⟨(idx (ix2 r 0)).toNat, by omega⟩) := by
  refine congrArg p (funext fun a => Fin.ext ?_)
  have hsi : ∀ c : Fin 2, gather_S256x16_S256x2_S256_n_01_n_n_01_1_11.siIdx (ix1 r) c = ix2 r c := fun c => funext fun b => by
    match b with
    | ⟨0, _⟩ => rfl
    | ⟨1, _⟩ => rfl
  match a with
  | ⟨0, _⟩ =>
    show min (pairs idx (gather_S256x16_S256x2_S256_n_01_n_n_01_1_11.siIdx (ix1 r) (0 : Fin 2))).toInt.toNat 255 = r.val
    rw [hsi, pairs_0, clamp_small _ 255 (by rw [BitVec.toNat_ofNat]; omega) (by decide), BitVec.toNat_ofNat]
    omega
  | ⟨1, _⟩ =>
    show min (pairs idx (gather_S256x16_S256x2_S256_n_01_n_n_01_1_11.siIdx (ix1 r) (1 : Fin 2))).toInt.toNat 15 = (idx (ix2 r 0)).toNat
    rw [hsi, pairs_1, clamp_small _ 15 h (by decide)]

/-- The experts' matrices taken at each token's expert. -/
theorem take_expert (w : FVec Ideal S16x128x256 .f32) (idx : IVec S256x1 32) (r : Fin 256) (k : Fin 128) (o : Fin 256)
    (h : (idx (ix2 r 0)).toNat ≤ 15) :
    Host.gather gather_S16x128x256_S256x1_S256x128x256_12_0_n_n_0_1_1128256 w (col idx) (ix3 r k o)
      = w (ix3 ⟨(idx (ix2 r 0)).toNat, by omega⟩ k o) := by
  refine congrArg w (funext fun a => Fin.ext ?_)
  have hsi : gather_S16x128x256_S256x1_S256x128x256_12_0_n_n_0_1_1128256.siIdx (ix3 r k o) (0 : Fin 1) = ix2 r 0 := funext fun b => by
    match b with
    | ⟨0, _⟩ => rfl
    | ⟨1, _⟩ => rfl
  match a with
  | ⟨0, _⟩ =>
    show min (col idx (gather_S16x128x256_S256x1_S256x128x256_12_0_n_n_0_1_1128256.siIdx (ix3 r k o) (0 : Fin 1))).toInt.toNat 15
      = (idx (ix2 r 0)).toNat
    rw [hsi, col_apply, clamp_small _ 15 h (by decide)]
  | ⟨1, _⟩ =>
    show 0 + 0 + k.val = k.val
    omega
  | ⟨2, _⟩ =>
    show 0 + 0 + o.val = o.val
    omega

theorem chosen_apply (x : FVec Ideal S256x128 .bf16) (rw : FVec Ideal S128x16 .bf16) (idx : IVec S256x1 32) (r : Fin 256)
    (h : (idx (ix2 r 0)).toNat ≤ 15) : chosen x rw idx (ix1 r) = hprobs x rw (ix2 r ⟨(idx (ix2 r 0)).toNat, by omega⟩) := by
  unfold chosen
  pointwise
  rw [mask2_apply, if_pos h, take_pair _ _ _ h]
  rfl
theorem chosen_none (x : FVec Ideal S256x128 .bf16) (rw : FVec Ideal S128x16 .bf16) (idx : IVec S256x1 32) (r : Fin 256)
    (h : ¬(idx (ix2 r 0)).toNat ≤ 15) : chosen x rw idx (ix1 r) = (0 : EReal) := by
  unfold chosen
  pointwise
  rw [mask2_apply, if_neg h]
  rfl
theorem weights_apply (idx : IVec S256x1 32) (ew : FVec Ideal S16x128x256 .bf16) (r : Fin 256) (k : Fin 128) (o : Fin 256)
    (h : (idx (ix2 r 0)).toNat ≤ 15) : weights idx ew (ix3 r k o) = ew (ix3 ⟨(idx (ix2 r 0)).toNat, by omega⟩ k o) := by
  unfold weights
  pointwise
  rw [mask1_apply, if_pos h, take_expert _ _ _ _ _ h]
  rfl

/-- The reference's result at an index. -/
theorem refOut_apply (x : FVec Ideal S256x128 .bf16) (rw : FVec Ideal S128x16 .bf16) (idx : IVec S256x1 32) (ew : FVec Ideal S16x128x256 .bf16)
    (sw : FVec Ideal S128x256 .bf16) (r o : Fin 256) :
    refOut x rw idx ew sw (ix2 r o) = (∑ k : Fin 128, x (ix2 r k) * sw (ix2 k o)
      + (if h : (idx (ix2 r 0)).toNat ≤ 15 then hprobs x rw (ix2 r ⟨(idx (ix2 r 0)).toNat, by omega⟩)
          * ∑ k : Fin 128, x (ix2 r k) * ew (ix3 ⟨(idx (ix2 r 0)).toNat, by omega⟩ k o) else 0) : EReal) := by
  unfold refOut
  pointwise
  by_cases h : (idx (ix2 r 0)).toNat ≤ 15
  · rw [dif_pos h, chosen_apply _ _ _ _ h]
    simp only [weights_apply _ _ _ _ _ h]
  · rw [dif_neg h, chosen_none _ _ _ _ h, zero_mul]

end Cert.MoeRef

end
-- ==== Proof.Value.lean ====
module

public import proofs.«01_k».proof.Proof.Frames
public import proofs.«01_k».proof.Proof.Probs
public import proofs.«01_k».proof.Proof.RefValue

/-!
# The value claim

Among the eight devices exactly the one that holds a token's expert adds anything to it, and what it adds is the
reference's masked product; where the token's index names no expert neither side adds anything.
-/

@[expose] public section

noncomputable section

namespace Cert.MoeProof

open Cert.KernelIdeal Cert.KernelIdeal.Gen
open Idealize.ShloMosaic
open Idealize.ShloMosaic.TcCoe
open Cert.MoeRef (hprobs refOut)

/-- A column laid along every row: the host's spelling and the kernel's. -/
theorem lay_column (v : FVec Ideal S256 .f32) :
    broadcastInDim S256x16 ![0, 1] Cert.ReferenceIdeal.Gen.facts.bcast_S256x1_S256x16_0_1
      (broadcastInDim S256x1 ![0] Cert.ReferenceIdeal.Gen.facts.bcast_S256_S256x1_0 v)
      = broadcastTo S256x16 (shapeCast S256x1 v shapeCasts_S256_S256x1) broadcasts_S256x1_S256x16 := by
  funext j
  obtain ⟨r, e, rfl⟩ : ∃ (r : Fin 256) (e : Fin 16), j = ix2 r e := ⟨j 0, j 1, eq_ix2 j⟩
  pointwise

/-- The rows' maxima, and the rows' sums: the host's spelling and the kernel's. -/
theorem row_max (s : FVec Ideal S256x16 .f32) :
    Host.reduce FloatOps.maximumf s (constant Cert.ReferenceIdeal.S_ .f32 0xFF800000#32) Cert.ReferenceIdeal.Gen.facts.reducesTo_S256x16_S256_d1
      Cert.ReferenceIdeal.Gen.facts.h_S_ = multiReduction .maximumf [1] S256 s 0xFF800000#32 reduces_S256x16_S256 (.inl rfl) rfl :=
  hostReduce_maximumf_eq_multiReduction s _ _ _ _ _ _
theorem row_sum (s : FVec Ideal S256x16 .f32) :
    Host.reduceAdd s (constant (F := Ideal) Cert.ReferenceIdeal.S_ .f32 0x00000000#32) Cert.ReferenceIdeal.Gen.facts.reducesTo_S256x16_S256_d1
      Cert.ReferenceIdeal.Gen.facts.h_S_ = multiReduction .add [1] S256 s 0x00000000#32 reduces_S256x16_S256 (.inl rfl) rfl :=
  (multiReduction_add_eq_hostReduceAdd s _ _ _ _ _ _ _ Ideal.ofBits_zero_f32).symm

/-- The router's scores: the host's spelling and the kernel's. -/
theorem scores_eq (x : FVec Ideal S256x128 .bf16) (rw : FVec Ideal S128x16 .bf16) :
    (Host.dotGeneral Cert.ReferenceIdeal.dot_S256x128_S128x16_S256x16_1_0_0_1_n_n none (extf .f32 x Cert.ReferenceIdeal.Gen.facts.bitsLt_bf16_f32)
      (extf .f32 rw Cert.ReferenceIdeal.Gen.facts.bitsLt_bf16_f32) : FVec Ideal S256x16 .f32)
    = matmul dot_S256x128_S128x16_S256x16_1_0_0_1_n_n none (shapeCast S256x128 x shapeCasts_S256x128_S256x128)
      (shapeCast S128x16 rw shapeCasts_S128x16_S128x16) (constant S256x16 .f32 0x00000000#32) := by
  rw [shapeCast_id, shapeCast_id, matmul_zero_eq_dotGeneral]
  rfl

/-- The scores' softmax from one array of scores: the two spellings are one. -/
theorem soft_eq (s : FVec Ideal S256x16 .f32) (s' : FVec Ideal S256x16 .f32) (h : s = s') :
    (let e : FVec Ideal S256x16 .f32 := Host.exp (subf s (broadcastInDim S256x16 ![0, 1] Cert.ReferenceIdeal.Gen.facts.bcast_S256x1_S256x16_0_1
        (broadcastInDim S256x1 ![0] Cert.ReferenceIdeal.Gen.facts.bcast_S256_S256x1_0 (Host.reduce FloatOps.maximumf s
          (constant Cert.ReferenceIdeal.S_ .f32 0xFF800000#32) Cert.ReferenceIdeal.Gen.facts.reducesTo_S256x16_S256_d1 Cert.ReferenceIdeal.Gen.facts.h_S_))))
     Host.divf e (broadcastInDim S256x16 ![0, 1] Cert.ReferenceIdeal.Gen.facts.bcast_S256x1_S256x16_0_1
        (broadcastInDim S256x1 ![0] Cert.ReferenceIdeal.Gen.facts.bcast_S256_S256x1_0 (Host.reduceAdd e
          (constant (F := Ideal) Cert.ReferenceIdeal.S_ .f32 0x00000000#32) Cert.ReferenceIdeal.Gen.facts.reducesTo_S256x16_S256_d1 Cert.ReferenceIdeal.Gen.facts.h_S_))))
    = (let e : FVec Ideal S256x16 .f32 := exp (subf s' (broadcastTo S256x16 (shapeCast S256x1
        (multiReduction .maximumf [1] S256 s' 0xFF800000#32 reduces_S256x16_S256 (.inl rfl) rfl) shapeCasts_S256_S256x1) broadcasts_S256x1_S256x16))
       divf e (broadcastTo S256x16 (shapeCast S256x1
        (multiReduction .add [1] S256 e 0x00000000#32 reduces_S256x16_S256 (.inl rfl) rfl) shapeCasts_S256_S256x1) broadcasts_S256x1_S256x16)) := by
  subst h
  rw [lay_column, row_max]
  dsimp only
  rw [lay_column, row_sum]
  rfl

/-- The two softmaxes are one. -/
theorem hprobs_eq (x : FVec Ideal S256x128 .bf16) (rw : FVec Ideal S128x16 .bf16) : hprobs x rw = probs x rw :=
  soft_eq _ _ (scores_eq x rw)

/-- The kernel's probability of a token's expert is the softmax's entry for it. -/
theorem pE_eq (m : (ℓ : Loc nD τ sig) → Buf (Elt Ideal) ℓ) (ρ : Dev nD → PrngReg) (c : Dev nD) (r : Fin 256) (n : Fin 16)
    (h : iE m ρ c r = BitVec.ofNat 32 n.val) : pE m ρ c r = probs (xstg m ρ c) (rwstg m ρ c) (ix2 r n) := by
  unfold pE
  rw [pay2_apply]
  rw [Finset.sum_eq_single n]
  · exact if_pos h
  · intro b _ hb
    refine if_neg fun e => hb ?_
    have := congrArg BitVec.toNat ((show iE m ρ c r = _ from e).symm.trans h)
    rw [BitVec.toNat_ofNat, BitVec.toNat_ofNat] at this
    exact Fin.ext (by omega)
  · exact fun h => absurd (Finset.mem_univ _) h

/-- Eight devices' pairs of choices together: at most one of the sixteen is taken. -/
theorem one_of_sixteen (w : BitVec 32) (Y : Fin 16 → EReal) :
    (∑ s : Fin 8, ((if w = BitVec.ofNat 32 (2 * s.val) then Y ⟨2 * s.val, by omega⟩ else 0)
      + (if w = BitVec.ofNat 32 (2 * s.val + 1) then Y ⟨2 * s.val + 1, by omega⟩ else 0)))
      = if h : w.toNat ≤ 15 then Y ⟨w.toNat, by omega⟩ else 0 := by
  have key : ∀ n : Nat, n < 16 → (w = BitVec.ofNat 32 n ↔ w.toNat = n) := fun n hn => by
    constructor
    · rintro rfl
      rw [BitVec.toNat_ofNat]
      omega
    · intro h
      exact BitVec.eq_of_toNat_eq (by rw [BitVec.toNat_ofNat]; omega)
  by_cases h : w.toNat ≤ 15
  · rw [dif_pos h, Finset.sum_eq_single (⟨w.toNat / 2, by omega⟩ : Fin 8)]
    · rcases Nat.mod_two_eq_zero_or_one w.toNat with h0 | h1
      · rw [if_pos ((key _ (by simp only []; omega)).mpr (by simp only []; omega)),
          if_neg fun e => absurd ((key _ (by simp only []; omega)).mp e) (by simp only []; omega), add_zero]
        exact congrArg Y (Fin.ext (by simp only []; omega))
      · rw [if_neg fun e => absurd ((key _ (by simp only []; omega)).mp e) (by simp only []; omega),
          if_pos ((key _ (by simp only []; omega)).mpr (by simp only []; omega)), zero_add]
        exact congrArg Y (Fin.ext (by simp only []; omega))
    · intro s _ hs
      have hs' : s.val ≠ w.toNat / 2 := fun e => hs (Fin.ext e)
      rw [if_neg fun e => absurd ((key _ (by omega)).mp e) (by omega), if_neg fun e => absurd ((key _ (by omega)).mp e) (by omega), add_zero]
    · exact fun h => absurd (Finset.mem_univ _) h
  · rw [dif_neg h]
    refine Finset.sum_eq_zero fun s _ => ?_
    rw [if_neg fun e => absurd ((key _ (by omega)).mp e) (by omega), if_neg fun e => absurd ((key _ (by omega)).mp e) (by omega), add_zero]

/-! ## The two results -/

section Together

variable (m : (ℓ : Loc nD τ sig) → Buf (Elt Ideal) ℓ) (ρ : Dev nD → PrngReg)
variable (X : FVec Ideal S256x128 .bf16) (RW : FVec Ideal S128x16 .bf16) (I : IVec S256x1 32)
  (EW : FVec Ideal Cert.ReferenceIdeal.S16x128x256 .bf16) (SW : FVec Ideal S128x256 .bf16)

/-- The devices hold the whole arrays, and of the experts each its own two. -/
def Agree : Prop :=
  ∀ c : Dev nD, xstg m ρ c = X ∧ rwstg m ρ c = RW ∧ idxstg m ρ c = I
    ∧ ewstg m ρ c = Layout.block ⟨3, ![2, 128, 256]⟩ ⟨3, ![16, 128, 256]⟩ 0 8 c EW ∧ swstg m ρ c = SW

variable {m ρ X RW I EW SW}

theorem eE_eq (H : Agree m ρ X RW I EW SW) (c : Fin 8) (j : Fin 2) (k : Fin 128) (o : Fin 256) :
    eE m ρ c j k o = EW (ix3 ⟨2 * c.val + j.val, by omega⟩ k o) := by
  unfold eE
  rw [(H c).2.2.2.1]
  refine congrArg EW (funext fun a => Fin.ext ?_)
  match a with
  | ⟨0, _⟩ =>
    show c.val * 2 + j.val = 2 * c.val + j.val
    omega
  | ⟨1, _⟩ => rfl
  | ⟨2, _⟩ => rfl

/-- What device `c` adds, over the whole arrays. -/
theorem aE_eq (H : Agree m ρ X RW I EW SW) (c : Fin 8) (r o : Fin 256) : aE m ρ c r o
    = (if I (ix2 r 0) = BitVec.ofNat 32 (2 * c.val) then
        (fun n : Fin 16 => (probs X RW (ix2 r n) * ∑ k : Fin 128, X (ix2 r k) * EW (ix3 n k o) : EReal)) ⟨2 * c.val, by omega⟩ else 0)
      + (if I (ix2 r 0) = BitVec.ofNat 32 (2 * c.val + 1) then
        (fun n : Fin 16 => (probs X RW (ix2 r n) * ∑ k : Fin 128, X (ix2 r k) * EW (ix3 n k o) : EReal)) ⟨2 * c.val + 1, by omega⟩ else 0) := by
  have hI : iE m ρ c r = I (ix2 r 0) := congrFun (H c).2.2.1 _
  have hX : ∀ k, xE m ρ c r k = X (ix2 r k) := fun k => congrFun (H c).1 _
  have hp : ∀ n : Fin 16, I (ix2 r 0) = BitVec.ofNat 32 n.val → pE m ρ c r = probs X RW (ix2 r n) := fun n e => by
    rw [pE_eq m ρ c r n (hI.trans e), (H c).1, (H c).2.1]
  rw [acc_apply, hI]
  simp only [hX, eE_eq H]
  refine congrArg₂ (· + ·) ?_ ?_
  · split
    · rw [hp ⟨2 * c.val, by omega⟩ (by assumption)]
      rfl
    · rfl
  · split
    · rw [hp ⟨2 * c.val + 1, by omega⟩ (by assumption)]
      rfl
    · rfl

/-- Each device's result is its block of the reference's. -/
theorem out_eq (H : Agree m ρ X RW I EW SW) (c : Dev nD) :
    outAt m ρ c = Layout.block ⟨2, ![32, 256]⟩ ⟨2, ![256, 256]⟩ 0 8 c (refOut X RW I EW SW) := by
  funext j
  obtain ⟨r, o, rfl⟩ : ∃ (r : Fin 32) (o : Fin 256), j = ix2 r o := ⟨j 0, j 1, eq_ix2 j⟩
  have hb : Layout.block ⟨2, ![32, 256]⟩ ⟨2, ![256, 256]⟩ 0 8 c (refOut X RW I EW SW) (by decide) (ix2 r o) = refOut X RW I EW SW (ix2 (tokRow c r) o) := by
    refine congrArg (refOut X RW I EW SW) (funext fun a => Fin.ext ?_)
    match a with
    | ⟨0, _⟩ =>
      show c.val * 32 + r.val = 32 * c.val + r.val
      omega
    | ⟨1, _⟩ => rfl
  refine Eq.trans ?_ hb.symm
  rw [Cert.MoeRef.refOut_apply, hprobs_eq]
  refine (out_apply m ρ c r o).trans (congrArg₂ (α := EReal) (β := EReal) (· + ·) ?_ ?_)
  · refine Finset.sum_congr rfl fun k _ => ?_
    rw [show xE m ρ c (tokRow c r) k = X (ix2 (tokRow c r) k) from congrFun (H c).1 _, show sE m ρ c k o = SW (ix2 k o) from congrFun (H c).2.2.2.2 _]
  · rw [Finset.sum_congr rfl fun s _ => aE_eq H s (tokRow c r) o]
    exact one_of_sixteen (I (ix2 (tokRow c r) 0)) fun n : Fin 16 =>
      (probs X RW (ix2 (tokRow c r) n) * ∑ k : Fin 128, X (ix2 (tokRow c r) k) * EW (ix3 n k o) : EReal)

end Together

theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.ReferenceIdeal.Value.res_out0 m' 0, ?_, ?_⟩
  · refine (θ_run _ _ _).mono (fun r h c => ⟨?_, (h.1 c).2⟩) (run_named (F := Ideal) m g)
    exact (h.1 c).1.trans ((out_eq (fun c => hagree c) c).trans (congrArg (fun v => Layout.block ⟨2, ![32, 256]⟩ ⟨2, ![256, 256]⟩ 0 8 c v) (Cert.MoeRef.res_eq m' 0).symm))
  · exact (θ_run _ _ _).mono (fun r h => h 0) (Cert.ReferenceIdeal.Value.run m' g')

end Cert.MoeProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.MoeProof.frame_kernel, Cert.MoeProof.frame_ideal, Cert.MoeProof.frame_ref, trivial, Cert.MoeProof.algebraic⟩

end Cert.Proof

end
